-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "scale2" .f32 0x3E38AA3B#32 (((8 * (Real.log 2))⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S1x2048x768 : Shape := ⟨3, ![1, 2048, 768]⟩
abbrev S768x768 : Shape := ⟨2, ![768, 768]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_

variable [Facts]

def fn_part1 {F : FTy → Type} [FloatOps F] (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  main_v18

def fn {F : FTy → Type} [FloatOps F] (main_arg0 : FVec F S1x2048x768 .f32) (main_arg1 : FVec F S1x2048x768 .f32) (main_arg2 : FVec F S1x2048x768 .f32) (main_arg3 : FVec F S768x768 .f32) (main_arg4 : FVec F S768x768 .f32) (main_arg5 : FVec F S768x768 .f32) (main_arg6 : FVec F S768x768 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S1x2048x768 .f32 := Host.absf main_arg1
  let main_cst_0 : FVec F S_ .f32 := constant S_ .f32 0x7F800000#32
  let main_v5 : FVec F S1x2048x768 .f32 := broadcastInDim S1x2048x768 ![] bcast_S_S1x2048x768 main_cst_0
  let main_v6 : IVec S1x2048x768 1 := cmpf .olt main_v4 main_v5
  let main_c_1 : IVec S_ 1 := constantI S_ 1 1#1
  let main_v7 : IVec S_ 1 := (fun x v => Host.reduce IntOp.andi x v reducesTo_S1x2048x768_S_d0_1_2 h_S_) main_v6 main_c_1
  let main_v8 : IVec S_ 1 := andi main_v3 main_v7
  let main_v9 : FVec F S768x768 .f32 := Host.absf main_arg3
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768x768 .f32 := Host.absf main_arg4
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_v13 main_v16
-- ==== Kernel.lean ====
abbrev S1x2048x768 : Shape := ⟨3, ![1, 2048, 768]⟩
abbrev S768x768 : Shape := ⟨2, ![768, 768]⟩
abbrev S1x256x768 : Shape := ⟨3, ![1, 256, 768]⟩
abbrev S2080x768 : Shape := ⟨2, ![2080, 768]⟩
abbrev S32x768 : Shape := ⟨2, ![32, 768]⟩
abbrev S256x768 : Shape := ⟨2, ![256, 768]⟩
abbrev S256x288 : Shape := ⟨2, ![256, 288]⟩
abbrev S288x1 : Shape := ⟨2, ![288, 1]⟩
abbrev S288x768 : Shape := ⟨2, ![288, 768]⟩
abbrev S256x64 : Shape := ⟨2, ![256, 64]⟩
abbrev S288x64 : Shape := ⟨2, ![288, 64]⟩
abbrev S256 : Shape := ⟨1, ![256]⟩
abbrev S256x1 : Shape := ⟨2, ![256, 1]⟩
abbrev S288x65 : Shape := ⟨2, ![288, 65]⟩
abbrev S256x65 : Shape := ⟨2, ![256, 65]⟩

abbrev nBuf : Space → Nat
  | .hbm => 8
  | .vmem => 18
  | .smem => 0
  | _ => 0

abbrev bufTy : (tb : Table) → Fin (tcTables nBuf tb) → BufTy
  | .hbm, ⟨0, _⟩ => ⟨S1x2048x768, .f32⟩
  | .hbm, ⟨1, _⟩ => ⟨S1x2048x768, .f32⟩
  | .hbm, ⟨2, _⟩ => ⟨S1x2048x768, .f32⟩
  | .hbm, ⟨3, _⟩ => ⟨S768x768, .f32⟩
  | .hbm, ⟨4, _⟩ => ⟨S768x768, .f32⟩
  | .hbm, ⟨5, _⟩ => ⟨S768x768, .f32⟩
  | .hbm, ⟨6, _⟩ => ⟨S768x768, .f32⟩
  | .hbm, ⟨7, _⟩ => ⟨S1x2048x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S768x768, .f32⟩
  | .local _ .vmem, ⟨7, _⟩ => ⟨S768x768, .f32⟩
  | .local _ .vmem, ⟨8, _⟩ => ⟨S768x768, .f32⟩
  | .local _ .vmem, ⟨9, _⟩ => ⟨S768x768, .f32⟩
  | .local _ .vmem, ⟨10, _⟩ => ⟨S1x256x768, .f32⟩
  | .local _ .vmem, ⟨11, _⟩ => ⟨S1x256x768, .f32⟩
  | .local _ .vmem, ⟨12, _⟩ => ⟨S2080x768, .bf16⟩
  | .local _ .vmem, ⟨13, _⟩ => ⟨S2080x768, .bf16⟩
  | .local _ .vmem, ⟨14, _⟩ => ⟨S768x768, .bf16⟩
  | .local _ .vmem, ⟨15, _⟩ => ⟨S768x768, .bf16⟩
  | .local _ .vmem, ⟨16, _⟩ => ⟨S768x768, .bf16⟩
  | .local _ .vmem, ⟨17, _⟩ => ⟨S768x768, .bf16⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![9], ![false]⟩

def k0_mult1 (i : grid0.Coords) : BitVec 32 :=
  let c32_i32 : BitVec 32 := 32#32
  let arg0 : BitVec 32 := BitVec.ofNat 32 (i 0).val
  let c7_i32 : BitVec 32 := 7#32
  let v5 : BitVec 32 := Scalar.minsi arg0 c7_i32
  let c256_i32 : BitVec 32 := 256#32
  let v12 : BitVec 32 := Scalar.muli v5 c256_i32
  let v13 : BitVec 32 := Scalar.addi c32_i32 v12
  v13
def k0_off1 (i : grid0.Coords) : Fin 2 → Nat :=
  let c32_i32 : BitVec 32 := 32#32
  let arg0 : BitVec 32 := BitVec.ofNat 32 (i 0).val
  let c7_i32 : BitVec 32 := 7#32
  let v5 : BitVec 32 := Scalar.minsi arg0 c7_i32
  let c256_i32 : BitVec 32 := 256#32
  let v12 : BitVec 32 := Scalar.muli v5 c256_i32
  let v13 : BitVec 32 := Scalar.addi c32_i32 v12
  let v14 : BitVec 32 := v13
  let v15 : Index := Scalar.indexCast v14
  let c0_6 : Index := 0#32
  ![v15.toNat, 0]
def k0_mult2 (i : grid0.Coords) : BitVec 32 :=
  let c32_i32_14 : BitVec 32 := 32#32
  let arg0 : BitVec 32 := BitVec.ofNat 32 (i 0).val
  let c7_i32 : BitVec 32 := 7#32
  let v5 : BitVec 32 := Scalar.minsi arg0 c7_i32
  let c256_i32_13 : BitVec 32 := 256#32
  let v25 : BitVec 32 := Scalar.muli v5 c256_i32_13
  let v26 : BitVec 32 := Scalar.addi c32_i32_14 v25
  v26
def k0_mult3 (i : grid0.Coords) : BitVec 32 :=
  let arg0 : BitVec 32 := BitVec.ofNat 32 (i 0).val
  let c1_i32 : BitVec 32 := 1#32
  let v3 : BitVec 32 := Scalar.subi arg0 c1_i32
  let c0_i32_1 : BitVec 32 := 0#32
  let v4 : BitVec 32 := Scalar.maxsi v3 c0_i32_1
  let c256_i32_25 : BitVec 32 := 256#32
  let v48 : BitVec 32 := Scalar.muli v4 c256_i32_25
  let c0_i32_26 : BitVec 32 := 0#32
  let v49 : BitVec 32 := Scalar.addi v48 c0_i32_26
  v49
def k0_off2 (i : grid0.Coords) : Fin 2 → Nat :=
  let arg0 : BitVec 32 := BitVec.ofNat 32 (i 0).val
  let c1_i32 : BitVec 32 := 1#32
  let v3 : BitVec 32 := Scalar.subi arg0 c1_i32
  let c0_i32_1 : BitVec 32 := 0#32
  let v4 : BitVec 32 := Scalar.maxsi v3 c0_i32_1
  let c256_i32_25 : BitVec 32 := 256#32
  let v48 : BitVec 32 := Scalar.muli v4 c256_i32_25
  let c0_i32_26 : BitVec 32 := 0#32
  let v49 : BitVec 32 := Scalar.addi v48 c0_i32_26
  let v50 : BitVec 32 := v49
  let v51 : Index := Scalar.indexCast v50
  let c0_27 : Index := 0#32
  ![v51.toNat, 0]
def cc0_transform_0 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "scale2" => some (((8 * (Real.log 2))⁻¹ : ℝ) : EReal)
  | _ => none
-- ==== ReferenceIdeal.lean ====
abbrev S1x2048x768 : Shape := ⟨3, ![1, 2048, 768]⟩
abbrev S768x768 : Shape := ⟨2, ![768, 768]⟩
abbrev S32x2048 : Shape := ⟨2, ![32, 2048]⟩
abbrev S_ : Shape := ⟨0, ![]⟩
abbrev S1x2048x12x64 : Shape := ⟨4, ![1, 2048, 12, 64]⟩
abbrev S1x12x2048x64 : Shape := ⟨4, ![1, 12, 2048, 64]⟩
abbrev S32x2048x1 : Shape := ⟨3, ![32, 2048, 1]⟩
abbrev S1x12x32x2048x64 : Shape := ⟨5, ![1, 12, 32, 2048, 64]⟩
abbrev S1x12x1x2048x64 : Shape := ⟨5, ![1, 12, 1, 2048, 64]⟩
abbrev S1x12x32x2048 : Shape := ⟨4, ![1, 12, 32, 2048]⟩
abbrev S1x1x32x2048 : Shape := ⟨4, ![1, 1, 32, 2048]⟩
abbrev S1x12x2048 : Shape := ⟨3, ![1, 12, 2048]⟩
abbrev S1x12x1x2048 : Shape := ⟨4, ![1, 12, 1, 2048]⟩
abbrev S1x1x32x2048x1 : Shape := ⟨5, ![1, 1, 32, 2048, 1]⟩
abbrev S1x12x32x2048x1 : Shape := ⟨5, ![1, 12, 32, 2048, 1]⟩

abbrev nBuf : Space → Nat
  | .hbm => 99
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S1x2048x768, .f32⟩
  | .hbm, ⟨2, _⟩ => ⟨S1x2048x768, .f32⟩
  | .hbm, ⟨3, _⟩ => ⟨S768x768, .f32⟩
  | .hbm, ⟨4, _⟩ => ⟨S768x768, .f32⟩
  | .hbm, ⟨5, _⟩ => ⟨S768x768, .f32⟩
  | .hbm, ⟨6, _⟩ => ⟨S768x768, .f32⟩
  | .hbm, ⟨7, _⟩ => ⟨S32x2048, .i32⟩
  | .hbm, ⟨8, _⟩ => ⟨S32x2048, .i32⟩
  | .hbm, ⟨9, _⟩ => ⟨S_, .i32⟩
  | .hbm, ⟨10, _⟩ => ⟨S32x2048, .i32⟩
  | .hbm, ⟨11, _⟩ => ⟨S32x2048, .i32⟩
  | .hbm, ⟨12, _⟩ => ⟨S_, .i32⟩
  | .hbm, ⟨13, _⟩ => ⟨S32x2048, .i32⟩
  | .hbm, ⟨14, _⟩ => ⟨S32x2048, .i32⟩
  | .hbm, ⟨15, _⟩ => ⟨S32x2048, .i32⟩
  | .hbm, ⟨16, _⟩ => ⟨S_, .i32⟩
  | .hbm, ⟨17, _⟩ => ⟨S32x2048, .i32⟩
  | .hbm, ⟨18, _⟩ => ⟨S32x2048, .i1⟩
  | .hbm, ⟨19, _⟩ => ⟨S_, .i32⟩
  | .hbm, ⟨20, _⟩ => ⟨S32x2048, .i32⟩
  | .hbm, ⟨21, _⟩ => ⟨S32x2048, .i1⟩
  | .hbm, ⟨22, _⟩ => ⟨S32x2048, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S32x2048, .i32⟩
  | .hbm, ⟨27, _⟩ => ⟨S32x2048, .i32⟩
  | .hbm, ⟨28, _⟩ => ⟨S_, .i32⟩
  | .hbm, ⟨29, _⟩ => ⟨S32x2048, .i32⟩
  | .hbm, ⟨30, _⟩ => ⟨S32x2048, .i32⟩
  | .hbm, ⟨31, _⟩ => ⟨S1x2048x768, .f32⟩
  | .hbm, ⟨32, _⟩ => ⟨S1x2048x12x64, .f32⟩
  | .hbm, ⟨33, _⟩ => ⟨S1x12x2048x64, .f32⟩
  | .hbm, ⟨34, _⟩ => ⟨S1x2048x768, .f32⟩
  | .hbm, ⟨35, _⟩ => ⟨S1x2048x12x64, .f32⟩
  | .hbm, ⟨36, _⟩ => ⟨S1x12x2048x64, .f32⟩
  | .hbm, ⟨37, _⟩ => ⟨S1x2048x768, .f32⟩
  | .hbm, ⟨38, _⟩ => ⟨S1x2048x12x64, .f32⟩
  | .hbm, ⟨39, _⟩ => ⟨S1x12x2048x64, .f32⟩
  | .hbm, ⟨40, _⟩ => ⟨S_, .i32⟩
  | .hbm, ⟨41, _⟩ => ⟨S32x2048, .i32⟩
  | .hbm, ⟨42, _⟩ => ⟨S32x2048, .i1⟩
  | .hbm, ⟨43, _⟩ => ⟨S_, .i32⟩
  | .hbm, ⟨44, _⟩ => ⟨S32x2048, .i32⟩
  | .hbm, ⟨45, _⟩ => ⟨S32x2048, .i32⟩
  | .hbm, ⟨46, _⟩ => ⟨S32x2048, .i32⟩
  | .hbm, ⟨47, _⟩ => ⟨S32x2048x1, .i32⟩
  | .hbm, ⟨48, _⟩ => ⟨S1x12x32x2048x64, .f32⟩
  | .hbm, ⟨49, _⟩ => ⟨S1x12x1x2048x64, .f32⟩
  | .hbm, ⟨50, _⟩ => ⟨S1x12x32x2048x64, .f32⟩
  | .hbm, ⟨51, _⟩ => ⟨S1x12x32x2048x64, .f32⟩
  | .hbm, ⟨52, _⟩ => ⟨S_, .f32⟩
  | .hbm, ⟨53, _⟩ => ⟨S1x12x32x2048, .f32⟩
  | .hbm, ⟨54, _⟩ => ⟨S_, .f32⟩
  | .hbm, ⟨55, _⟩ => ⟨S1x12x32x2048, .f32⟩
  | .hbm, ⟨56, _⟩ => ⟨S1x12x32x2048, .f32⟩
  | .hbm, ⟨57, _⟩ => ⟨S1x1x32x2048, .i1⟩
  | .hbm, ⟨58, _⟩ => ⟨S_, .f32⟩
  | .hbm, ⟨59, _⟩ => ⟨S_, .f32⟩
  | .hbm, ⟨60, _⟩ => ⟨S1x12x32x2048, .i1⟩
  | .hbm, ⟨61, _⟩ => ⟨S1x12x32x2048, .f32⟩
  | .hbm, ⟨62, _⟩ => ⟨S1x12x32x2048, .f32⟩
  | .hbm, ⟨63, _⟩ => ⟨S_, .f32⟩
  | .hbm, ⟨64, _⟩ => ⟨S1x12x2048, .f32⟩
  | .hbm, ⟨65, _⟩ => ⟨S_, .f32⟩
  | .hbm, ⟨66, _⟩ => ⟨S1x12x2048, .f32⟩
  | .hbm, ⟨67, _⟩ => ⟨S1x12x2048, .f32⟩
  | .hbm, ⟨68, _⟩ => ⟨S1x12x1x2048, .f32⟩
  | .hbm, ⟨69, _⟩ => ⟨S1x12x32x2048, .f32⟩
  | .hbm, ⟨70, _⟩ => ⟨S1x12x32x2048, .f32⟩
  | .hbm, ⟨71, _⟩ => ⟨S1x12x32x2048, .f32⟩
  | .hbm, ⟨72, _⟩ => ⟨S_, .f32⟩
  | .hbm, ⟨73, _⟩ => ⟨S1x12x2048, .f32⟩
  | .hbm, ⟨74, _⟩ => ⟨S1x12x1x2048, .f32⟩
  | .hbm, ⟨75, _⟩ => ⟨S1x12x32x2048, .f32⟩
  | .hbm, ⟨76, _⟩ => ⟨S1x12x32x2048, .f32⟩
  | .hbm, ⟨77, _⟩ => ⟨S_, .i32⟩
  | .hbm, ⟨78, _⟩ => ⟨S32x2048, .i32⟩
  | .hbm, ⟨79, _⟩ => ⟨S32x2048, .i1⟩
  | .hbm, ⟨80, _⟩ => ⟨S_, .i32⟩
  | .hbm, ⟨81, _⟩ => ⟨S32x2048, .i32⟩
  | .hbm, ⟨82, _⟩ => ⟨S32x2048, .i32⟩
  | .hbm, ⟨83, _⟩ => ⟨S32x2048, .i32⟩
  | .hbm, ⟨84, _⟩ => ⟨S32x2048x1, .i32⟩
  | .hbm, ⟨85, _⟩ => ⟨S1x12x32x2048x64, .f32⟩
  | .hbm, ⟨86, _⟩ => ⟨S1x1x32x2048x1, .i1⟩
  | .hbm, ⟨87, _⟩ => ⟨S1x12x32x2048x1, .f32⟩
  | .hbm, ⟨88, _⟩ => ⟨S1x12x32x2048x64, .f32⟩
  | .hbm, ⟨89, _⟩ => ⟨S1x12x32x2048x64, .f32⟩
  | .hbm, ⟨90, _⟩ => ⟨S1x12x32x2048x1, .f32⟩
  | .hbm, ⟨91, _⟩ => ⟨S1x12x32x2048x64, .i1⟩
  | .hbm, ⟨92, _⟩ => ⟨S1x12x32x2048x64, .f32⟩
  | .hbm, ⟨93, _⟩ => ⟨S1x12x32x2048x64, .f32⟩
  | .hbm, ⟨94, _⟩ => ⟨S_, .f32⟩
  | .hbm, ⟨95, _⟩ => ⟨S1x12x2048x64, .f32⟩
  | .hbm, ⟨96, _⟩ => ⟨S1x2048x12x64, .f32⟩
  | .hbm, ⟨97, _⟩ => ⟨S1x2048x768, .f32⟩
  | .hbm, ⟨98, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_c_4 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v36 : Ref sig .tc := ⟨.hbm, 62, rfl⟩
abbrev main_cst_9 : Ref sig .tc := ⟨.hbm, 63, rfl⟩
abbrev main_v37 : Ref sig .tc := ⟨.hbm, 64, rfl⟩
abbrev main_cst_10 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_11 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_12 : Ref sig .tc := ⟨.hbm, 77, rfl⟩
abbrev main_v48 : Ref sig .tc := ⟨.hbm, 78, rfl⟩
abbrev main_v49 : Ref sig .tc := ⟨.hbm, 79, rfl⟩
abbrev main_c_13 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_call2_v0 : Ref sig .tc := ⟨.hbm, 91, rfl⟩
abbrev main_call2_v1 : Ref sig .tc := ⟨.hbm, 92, rfl⟩
abbrev main_v60 : Ref sig .tc := ⟨.hbm, 93, rfl⟩
abbrev main_cst_14 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩

abbrev nD : Nat := 1
abbrev τ : Topo := Topo.v7x

variable {F : FTy → Type} [FloatOps F]
-- ==== Proof.KernelFrame.lean ====
/- The frame of the kernel at the machine's own arithmetic: it runs to its end from every memory and leaves its argument
   arrays as they were. Nothing is said here of what it computes: output and scratch are held at any contents. -/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Where the window of the scratch a point reads begins, in closed form: at its block's first row. -/
theorem off2_eq : ∀ i : grid0.Coords, k0_off2 i = ![256 * ((i 0).val - 1), 0] := by decide +kernel

instance closedOff2 (i : grid0.Coords) : ClosedOff (k0_off2 i) := ⟨![256 * ((i 0).val - 1), 0], off2_eq i⟩

/-- A buffer held with some contents is owned at some vector. -/
theorem some_of {s : Shape} {e : EltTy} (c : Dev nD) (r : Memref sig .tc .vmem s e) (f : r.view.ty.Contents (Elt F)) :
    (View.loc (c : Thread nD τ) r.view ↦[r.view.set]{fullShare} f : sProp 𝕄) ⊢ iprop(∃ d, owns (c : Thread nD τ) r fullShare d) := by
  unfold owns
  iintro H; iexists _, f; isplitr; · ipureintro; rfl
  · iexact H

/-- The condition under which the body initialises its scratch, as the body computes it. -/
abbrev first (i : grid0.Coords) : Prop :=
  Scalar.cmpi .ne (Scalar.extui (Scalar.cmpi .eq (BitVec.ofNat 32 (i 0).val) 0#32) : BitVec 32) 0#32 = 1#1

set_option maxHeartbeats 1000000 in
/-- THE BODY at any point: from its input blocks and anything in its output block and scratches, it runs to its end, leaves the
    input blocks as they were and something in the output block and the scratches. -/
theorem body_runs (c : Dev nD) (i : grid0.Coords)
    (arg1 : Memref sig .tc .vmem S1x256x768 .f32) (harg1 : arg1.IsWhole) (arg2 : Memref sig .tc .vmem S1x256x768 .f32) (harg2 : arg2.IsWhole) (arg3 : Memref sig .tc .vmem S1x256x768 .f32) (harg3 : arg3.IsWhole)
    (arg4 : Memref sig .tc .vmem S768x768 .f32) (harg4 : arg4.IsWhole) (arg5 : Memref sig .tc .vmem S768x768 .f32) (harg5 : arg5.IsWhole) (arg6 : Memref sig .tc .vmem S768x768 .f32) (harg6 : arg6.IsWhole)
    (arg7 : Memref sig .tc .vmem S768x768 .f32) (harg7 : arg7.IsWhole) (arg8 : Memref sig .tc .vmem S1x256x768 .f32) (harg8 : arg8.IsWhole) (arg9 : Memref sig .tc .vmem S2080x768 .bf16) (harg9 : arg9.IsWhole)
    (arg10 : Memref sig .tc .vmem S2080x768 .bf16) (harg10 : arg10.IsWhole) (arg11 : Memref sig .tc .vmem S768x768 .bf16) (harg11 : arg11.IsWhole) (arg12 : Memref sig .tc .vmem S768x768 .bf16) (harg12 : arg12.IsWhole)
    (arg13 : Memref sig .tc .vmem S768x768 .bf16) (harg13 : arg13.IsWhole) (arg14 : Memref sig .tc .vmem S768x768 .bf16) (harg14 : arg14.IsWhole)
    (x0 x1 x2 : Vec F S1x256x768 .f32) (x3 x4 x5 x6 : Vec F S768x768 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%e0, %g0, -, HS0⟩, ⟨%e1, %g1, -, HS1⟩, ⟨%e2, %g2, -, HS2⟩, ⟨%e3, %g3, -, HS3⟩, ⟨%e4, %g4, -, HS4⟩, ⟨%e5, %g5, -, HS5⟩, Hk⟩
  by_cases hi : first i
  all_goals
    sl_exec (disch := first | sl_exact hi)
    sl_step
    iapply Hk
    isplitl [H0]; · iexists f0; isplitr [H0]; · ipureintro; exact hf0
                    · iexact H0
    isplitl [H1]; · iexists f1; isplitr [H1]; · ipureintro; exact hf1
                    · iexact H1
    isplitl [H2]; · iexists f2; isplitr [H2]; · ipureintro; exact hf2
                    · iexact H2
    isplitl [H3]; · iexists f3; isplitr [H3]; · ipureintro; exact hf3
                    · iexact H3
    isplitl [H4]; · iexists f4; isplitr [H4]; · ipureintro; exact hf4
                    · iexact H4
    isplitl [H5]; · iexists f5; isplitr [H5]; · ipureintro; exact hf5
                    · iexact H5
    isplitl [H6]; · iexists f6; isplitr [H6]; · ipureintro; exact hf6
                    · iexact H6
    isplitl [H7]; · iapply (some_of c arg8 _); iexact H7
    isplitl [HS0]; · iapply (some_of c arg9 _); iexact HS0
    isplitl [HS1]; · iapply (some_of c arg10 _); iexact HS1
    isplitl [HS2]; · iapply (some_of c arg11 _); iexact HS2
    isplitl [HS3]; · iapply (some_of c arg12 _); iexact HS3
    isplitl [HS4]; · iapply (some_of c arg13 _); iexact HS4
    iapply (some_of c arg14 _); iexact HS5

/-- The staging buffer of each window at a point, and the six scratches. -/
abbrev stage0 (t : Fin cfg0.N) : Memref sig .tc .vmem S1x256x768 .f32 := win0_0.stage (cfg0.slots t 0)
abbrev stage1 (t : Fin cfg0.N) : Memref sig .tc .vmem S1x256x768 .f32 := win0_1.stage (cfg0.slots t 1)
abbrev stage2 (t : Fin cfg0.N) : Memref sig .tc .vmem S1x256x768 .f32 := win0_2.stage (cfg0.slots t 2)
abbrev stage3 (t : Fin cfg0.N) : Memref sig .tc .vmem S768x768 .f32 := win0_3.stage (cfg0.slots t 3)
abbrev stage4 (t : Fin cfg0.N) : Memref sig .tc .vmem S768x768 .f32 := win0_4.stage (cfg0.slots t 4)
abbrev stage5 (t : Fin cfg0.N) : Memref sig .tc .vmem S768x768 .f32 := win0_5.stage (cfg0.slots t 5)
abbrev stage6 (t : Fin cfg0.N) : Memref sig .tc .vmem S768x768 .f32 := win0_6.stage (cfg0.slots t 6)
abbrev stage7 (t : Fin cfg0.N) : Memref sig .tc .vmem S1x256x768 .f32 := win0_7.stage (cfg0.slots t 7)
abbrev scr0 : Memref sig .tc .vmem S2080x768 .bf16 := Memref.whole cc0_scratch0
abbrev scr1 : Memref sig .tc .vmem S2080x768 .bf16 := Memref.whole cc0_scratch1
abbrev scr2 : Memref sig .tc .vmem S768x768 .bf16 := Memref.whole cc0_scratch2
abbrev scr3 : Memref sig .tc .vmem S768x768 .bf16 := Memref.whole cc0_scratch3
abbrev scr4 : Memref sig .tc .vmem S768x768 .bf16 := Memref.whole cc0_scratch4
abbrev scr5 : Memref sig .tc .vmem S768x768 .bf16 := Memref.whole cc0_scratch5

/-- What the launch hands the first point: the six scratches at anything. -/
theorem handed_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
  unfold Pipeline.ΦA; rw [scopedRest0_eq]; simp only [scr0, scr1, scr2, scr3, scr4, scr5, owns_whole]; try rfl

/-- The output window, of whose contents nothing is said. -/
def forgotten : Fin 8 → Bool := fun w => w.val == 7

/-- The proof data of the launch: the arrays as they are found, each input's buffer at its block after every point, the output
    unnamed; between points the scratches hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare ((dats m 0 c).before 6 t d))
    ∗ (∃ d, owns (c : Thread nD τ) (stage7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t)
    ∗ owns (c : Thread nD τ) (stage3 t) fullShare ((dats m 0 c).after 3 t)
    ∗ owns (c : Thread nD τ) (stage4 t) fullShare ((dats m 0 c).after 4 t)
    ∗ owns (c : Thread nD τ) (stage5 t) fullShare ((dats m 0 c).after 5 t)
    ∗ owns (c : Thread nD τ) (stage6 t) fullShare ((dats m 0 c).after 6 t)
    ∗ (∃ d, owns (c : Thread nD τ) (stage7 t) fullShare d))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6]
  rw [show (dats m 0 c).Φ t.succ = Pipeline.ΦA spec0 c from rfl, show (dats m 0 c).Φ t.castSucc = Pipeline.ΦA spec0 c from rfl, handed_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, H7⟩
  iapply (body_runs c (grid0.coords t)  _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

/-- The obligation of the launch, at every point. -/
theorem body_obligation (c : Dev nD) : BodyObligation (dats (F := F) m 0 c) (defs₀ (F := F)) Variants.none () Set.univ forgotten := fun t => by
  rw [bigSep_W0, bigSep_W0, defs₀_row]
  exact triple_restated (sound_body m c t) rfl .rfl fun _ => .rfl

set_option backward.isDefEq.respectTransparency.types false in
/-- THE LAUNCH: the program ends, the input arrays as they were found, every counter at zero. -/
theorem run_quiescent : θ_run defs (onTc (τ := τ) (main (F := F))) (s₀ m ρ)
    (fun r => (Pipeline.RDat.FramePost (cfgs 0) (fun c => (dats m 0 c).toRForget forgotten) (V m)) r ∧ r.2.sem = fun _ => 0) :=
  Pipeline.θ_run_frame_forget (Q' := _) cfgs (dats m) (0 : Fin 1) launch0 defs₀ Variants.none forgotten m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the program ends with its argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c))⟩, h.2⟩) (run_quiescent m ρ)

end Cert.Kernel.Run

end
-- ==== Proof.Tile.lean ====
/- What one grid point of the kernel computes, as functions of the vectors it reads: the projected rows it adds to the
   key and value scratch, and the output tile it computes from a query block and a window of projected keys and values. -/
module

public import proofs.«01_k».proof.Proof.Gen.KernelIdeal.Skeleton

@[expose] public section

set_option maxRecDepth 16384

noncomputable section

namespace Cert.KernelIdeal.Tile

open Idealize.ShloMosaic Idealize.SL.Sem
open Cert.KernelIdeal Cert.KernelIdeal.Gen

/-- The number of the output block a grid point computes, as the body computes it: the point's number less one, not below 0. -/
def blockNo (i : grid0.Coords) : BitVec 32 := Scalar.maxsi (Scalar.subi (BitVec.ofNat 32 (i 0).val) 1#32) 0#32

/-- The tile a grid point stores, from the block number `b`, the query block `x`, the scaled query weights `wq`, the windows
    `K` and `V` of projected keys and values and the output weights `wo`: the twelve heads' outputs side by side, times `wo`. -/
def tile (b : BitVec 32) (x : Vec Ideal S1x256x768 .f32) (wq : Vec Ideal S768x768 .bf16) (K V : Vec Ideal S288x768 .bf16)
    (wo : Vec Ideal S768x768 .bf16) : FVec Ideal S1x256x768 .f32 :=
  let Q := k0_pay11 x wq
  let one : FVec Ideal S288x1 .bf16 := k0_pay12
  let B : FVec Ideal S256x288 .bf16 := k0_pay13 b
  k0_pay2 (k0_pay15 one V (k0_pay14 b x wq K)) (k0_pay16 Q one K V B) (k0_pay17 Q one K V B)
    (k0_pay20 one V B (k0_pay18 Q) (k0_pay19 K)) (k0_pay21 Q one K V B) (k0_pay23 (k0_pay22 Q one K V B))
    (k0_pay24 Q one K V B) (k0_pay25 Q one K V B) (k0_pay27 one V (k0_pay26 Q K B)) (k0_pay28 Q one K V B)
    (k0_pay30 Q one K V B) (k0_pay31 Q one K V B) (k0_pay1 Q one K V B) wo

end Cert.KernelIdeal.Tile

end
-- ==== Proof.Body.lean ====
/- The kernel body run once: what it leaves in the scratch and in the output's buffer, at the first grid point and at a
   later one. -/
module

public import proofs.«01_k».proof.Proof.Tile
public import proofs.«01_k».proof.Proof.Gen.KernelIdeal.Frame
public import Idealize.ShloMosaic.Lib.VecWindow

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Tile

local notation "𝕄" => MT nD τ sig Unit (Elt Ideal) ℕ (UR sig nD τ) ℕ

/-- Where the window of the scratch a point reads begins, in closed form: at its block's first row. -/
theorem off2_eq : ∀ i : grid0.Coords, k0_off2 i = ![256 * ((i 0).val - 1), 0] := by decide +kernel

instance closedOff2 (i : grid0.Coords) : ClosedOff (k0_off2 i) := ⟨![256 * ((i 0).val - 1), 0], off2_eq i⟩

/-- The condition under which the body initialises its scratch, as the body computes it. -/
abbrev first (i : grid0.Coords) : Prop :=
  Scalar.cmpi .ne (Scalar.extui (Scalar.cmpi .eq (BitVec.ofNat 32 (i 0).val) 0#32) : BitVec 32) 0#32 = 1#1

/-- Projected rows `w` put into a scratch `X` at the rows of the point's block. -/
abbrev addRows (i : grid0.Coords) (X : Vec Ideal S2080x768 .bf16) (w : Vec Ideal S256x768 .bf16) : Vec Ideal S2080x768 .bf16 :=
  VecWindow.put X (k0_off1 i) S256x768.size w

/-- A scratch's first 32 rows set to `w`. -/
abbrev top (X : Vec Ideal S2080x768 .bf16) (w : Vec Ideal S32x768 .bf16) : Vec Ideal S2080x768 .bf16 :=
  VecWindow.put X ![0, 0] S32x768.size w

/-- The window of a scratch the point reads. -/
abbrev look (i : grid0.Coords) (X : Vec Ideal S2080x768 .bf16) : Vec Ideal S288x768 .bf16 :=
  VecWindow.window X (k0_off2 i) S288x768.size (k0_off2_inb i)

set_option maxHeartbeats 1000000 in
/-- A LATER POINT: the body adds the block's projected keys and values to the two scratches, leaves the weights as they
    were, and stores the tile computed from the two windows of what the scratches then hold. -/
theorem run_later (c : Dev nD) (i : grid0.Coords)
    (arg1 : Memref sig .tc .vmem S1x256x768 .f32) (harg1 : arg1.IsWhole) (arg2 : Memref sig .tc .vmem S1x256x768 .f32) (harg2 : arg2.IsWhole)
    (arg3 : Memref sig .tc .vmem S1x256x768 .f32) (harg3 : arg3.IsWhole) (arg4 : Memref sig .tc .vmem S768x768 .f32) (harg4 : arg4.IsWhole)
    (arg5 : Memref sig .tc .vmem S768x768 .f32) (harg5 : arg5.IsWhole) (arg6 : Memref sig .tc .vmem S768x768 .f32) (harg6 : arg6.IsWhole)
    (arg7 : Memref sig .tc .vmem S768x768 .f32) (harg7 : arg7.IsWhole) (arg8 : Memref sig .tc .vmem S1x256x768 .f32) (harg8 : arg8.IsWhole)
    (arg9 : Memref sig .tc .vmem S2080x768 .bf16) (harg9 : arg9.IsWhole) (arg10 : Memref sig .tc .vmem S2080x768 .bf16) (harg10 : arg10.IsWhole)
    (arg11 : Memref sig .tc .vmem S768x768 .bf16) (harg11 : arg11.IsWhole) (arg12 : Memref sig .tc .vmem S768x768 .bf16) (harg12 : arg12.IsWhole)
    (arg13 : Memref sig .tc .vmem S768x768 .bf16) (harg13 : arg13.IsWhole) (arg14 : Memref sig .tc .vmem S768x768 .bf16) (harg14 : arg14.IsWhole)
    (hi : ¬ first i) (x0 x1 x2 : Vec Ideal S1x256x768 .f32) (x3 x4 x5 x6 : Vec Ideal S768x768 .f32)
    (X9 X10 : Vec Ideal S2080x768 .bf16) (X11 X12 X13 X14 : Vec Ideal S768x768 .bf16) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ owns (c : Thread nD τ) arg9 fullShare X9 ∗ owns (c : Thread nD τ) arg10 fullShare X10 ∗ owns (c : Thread nD τ) arg11 fullShare X11
        ∗ owns (c : Thread nD τ) arg12 fullShare X12 ∗ owns (c : Thread nD τ) arg13 fullShare X13 ∗ owns (c : Thread nD τ) arg14 fullShare X14
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (tile (blockNo i) x0 X11 (look i (addRows i X9 (k0_pay9 x1 X12))) (look i (addRows i X10 (k0_pay10 x2 X13))) X14)
            ∗ owns (c : Thread nD τ) arg9 fullShare (addRows i X9 (k0_pay9 x1 X12)) ∗ owns (c : Thread nD τ) arg10 fullShare (addRows i X10 (k0_pay10 x2 X13))
            ∗ owns (c : Thread nD τ) arg11 fullShare X11 ∗ owns (c : Thread nD τ) arg12 fullShare X12 ∗ owns (c : Thread nD τ) arg13 fullShare X13
            ∗ owns (c : Thread nD τ) arg14 fullShare X14) -∗ K ⟨⟩))
      ⊢ wp frame (wpE (defs₀ (F := Ideal)) Variants.none c none) E
          (cc0__fused_kernel i arg1 harg1 arg2 harg2 arg3 harg3 arg4 harg4 arg5 harg5 arg6 harg6 arg7 harg7 arg8 harg8 arg9 harg9 arg10 harg10
            arg11 harg11 arg12 harg12 arg13 harg13 arg14 harg14) K := by
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%g0, %hg0, HS0⟩, ⟨%g1, %hg1, HS1⟩, ⟨%g2, %hg2, HS2⟩, ⟨%g3, %hg3, HS3⟩, ⟨%g4, %hg4, HS4⟩, ⟨%g5, %hg5, HS5⟩, Hk⟩
  sl_exec (disch := first | sl_exact hi)
  sl_step
  iapply Hk
  have l0 := (View.readAt_full arg1.view f0 inb_S1x256x768_S1x256x768_0_0_0).trans hf0
  have l1 := (View.readAt_full arg2.view f1 inb_S1x256x768_S1x256x768_0_0_0).trans hf1
  have l2 := (View.readAt_full arg3.view f2 inb_S1x256x768_S1x256x768_0_0_0).trans hf2
  have k2 := (View.readAt_full arg11.view g2 inb_S768x768_S768x768_0_0).trans hg2
  have k3 := (View.readAt_full arg12.view g3 inb_S768x768_S768x768_0_0).trans hg3
  have k4 := (View.readAt_full arg13.view g4 inb_S768x768_S768x768_0_0).trans hg4
  have k5 : arg14.view.readAt (Elt Ideal) (Rect.unit ![0, 0] ![768, 768] inb_S768x768_S768x768_0_0).toLoadRect g5 = X14 :=
    (View.readAt_full arg14.view g5 inb_S768x768_S768x768_0_0).trans hg5
  have p9 : ∀ w : Vec Ideal S256x768 .bf16, arg9.view.read (Elt Ideal) (arg9.view.writes (Elt Ideal) g0
      [⟨Rect.unit (k0_off1 i) S256x768.size (k0_off1_inb i), w⟩]) = addRows i X9 w := fun w => by
    rw [View.read_writes_cons_put _ _ _ _ _ rfl, ← hg0]; rfl
  have p10 : ∀ w : Vec Ideal S256x768 .bf16, arg10.view.read (Elt Ideal) (arg10.view.writes (Elt Ideal) g1
      [⟨Rect.unit (k0_off1 i) S256x768.size (k0_off1_inb i), w⟩]) = addRows i X10 w := fun w => by
    rw [View.read_writes_cons_put _ _ _ _ _ rfl, ← hg1]; rfl
  isplitl [H0]; · iexists f0; isplitr [H0]; · ipureintro; exact hf0
                  · iexact H0
  isplitl [H1]; · iexists f1; isplitr [H1]; · ipureintro; exact hf1
                  · iexact H1
  isplitl [H2]; · iexists f2; isplitr [H2]; · ipureintro; exact hf2
                  · iexact H2
  isplitl [H3]; · iexists f3; isplitr [H3]; · ipureintro; exact hf3
                  · iexact H3
  isplitl [H4]; · iexists f4; isplitr [H4]; · ipureintro; exact hf4
                  · iexact H4
  isplitl [H5]; · iexists f5; isplitr [H5]; · ipureintro; exact hf5
                  · iexact H5
  isplitl [H6]; · iexists f6; isplitr [H6]; · ipureintro; exact hf6
                  · iexact H6
  isplitl [H7]; · iexists _; isplitr [H7]; rotate_left 1
                  · iexact H7
                  · ipureintro
                    refine (View.read_writes_full _ _ _ _ _).trans ?_
                    sl_unfold_run_names
                    rw [l0, l1, l2, k2, k3, k4, k5, View.readAt_unit arg9.view _ _ rfl (k0_off2_inb i), p9,
                      View.readAt_unit arg10.view _ _ rfl (k0_off2_inb i), p10]
                    rfl
  isplitl [HS0]; · iexists _; isplitr [HS0]; rotate_left 1
                   · iexact HS0
                   · ipureintro
                     sl_unfold_run_names
                     rw [l1, k3]; exact p9 _
  isplitl [HS1]; · iexists _; isplitr [HS1]; rotate_left 1
                   · iexact HS1
                   · ipureintro
                     sl_unfold_run_names
                     rw [l2, k4]; exact p10 _
  isplitl [HS2]; · iexists g2; isplitr [HS2]; · ipureintro; exact hg2
                   · iexact HS2
  isplitl [HS3]; · iexists g3; isplitr [HS3]; · ipureintro; exact hg3
                   · iexact HS3
  isplitl [HS4]; · iexists g4; isplitr [HS4]; · ipureintro; exact hg4
                   · iexact HS4
  iexists g5; isplitr [HS5]; · ipureintro; exact hg5
  · iexact HS5

set_option maxHeartbeats 1000000 in
/-- THE FIRST POINT: as a later one, after the scratches were filled: zero rows above the keys and the values, the scaled
    query weights and copies of the other three. -/
theorem run_first (c : Dev nD) (i : grid0.Coords)
    (arg1 : Memref sig .tc .vmem S1x256x768 .f32) (harg1 : arg1.IsWhole) (arg2 : Memref sig .tc .vmem S1x256x768 .f32) (harg2 : arg2.IsWhole)
    (arg3 : Memref sig .tc .vmem S1x256x768 .f32) (harg3 : arg3.IsWhole) (arg4 : Memref sig .tc .vmem S768x768 .f32) (harg4 : arg4.IsWhole)
    (arg5 : Memref sig .tc .vmem S768x768 .f32) (harg5 : arg5.IsWhole) (arg6 : Memref sig .tc .vmem S768x768 .f32) (harg6 : arg6.IsWhole)
    (arg7 : Memref sig .tc .vmem S768x768 .f32) (harg7 : arg7.IsWhole) (arg8 : Memref sig .tc .vmem S1x256x768 .f32) (harg8 : arg8.IsWhole)
    (arg9 : Memref sig .tc .vmem S2080x768 .bf16) (harg9 : arg9.IsWhole) (arg10 : Memref sig .tc .vmem S2080x768 .bf16) (harg10 : arg10.IsWhole)
    (arg11 : Memref sig .tc .vmem S768x768 .bf16) (harg11 : arg11.IsWhole) (arg12 : Memref sig .tc .vmem S768x768 .bf16) (harg12 : arg12.IsWhole)
    (arg13 : Memref sig .tc .vmem S768x768 .bf16) (harg13 : arg13.IsWhole) (arg14 : Memref sig .tc .vmem S768x768 .bf16) (harg14 : arg14.IsWhole)
    (hi : first i) (x0 x1 x2 : Vec Ideal S1x256x768 .f32) (x3 x4 x5 x6 : Vec Ideal S768x768 .f32)
    (X9 X10 : Vec Ideal S2080x768 .bf16) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ owns (c : Thread nD τ) arg9 fullShare X9 ∗ owns (c : Thread nD τ) arg10 fullShare X10 ∗ (∃ d, owns (c : Thread nD τ) arg11 fullShare d)
        ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (tile (blockNo i) x0 (k0_pay5 x3) (look i (addRows i (top X9 (k0_pay3 (F := Ideal))) (k0_pay9 x1 (k0_pay6 x4)))) (look i (addRows i (top X10 (k0_pay4 (F := Ideal))) (k0_pay10 x2 (k0_pay7 x5)))) (k0_pay8 x6))
            ∗ owns (c : Thread nD τ) arg9 fullShare (addRows i (top X9 (k0_pay3 (F := Ideal))) (k0_pay9 x1 (k0_pay6 x4))) ∗ owns (c : Thread nD τ) arg10 fullShare (addRows i (top X10 (k0_pay4 (F := Ideal))) (k0_pay10 x2 (k0_pay7 x5)))
            ∗ owns (c : Thread nD τ) arg11 fullShare (k0_pay5 x3) ∗ owns (c : Thread nD τ) arg12 fullShare (k0_pay6 x4) ∗ owns (c : Thread nD τ) arg13 fullShare (k0_pay7 x5)
            ∗ owns (c : Thread nD τ) arg14 fullShare (k0_pay8 x6)) -∗ K ⟨⟩))
      ⊢ wp frame (wpE (defs₀ (F := Ideal)) Variants.none c none) E
          (cc0__fused_kernel i arg1 harg1 arg2 harg2 arg3 harg3 arg4 harg4 arg5 harg5 arg6 harg6 arg7 harg7 arg8 harg8 arg9 harg9 arg10 harg10
            arg11 harg11 arg12 harg12 arg13 harg13 arg14 harg14) K := by
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%g0, %hg0, HS0⟩, ⟨%g1, %hg1, HS1⟩, ⟨%d8, %g2, -, HS2⟩, ⟨%d9, %g3, -, HS3⟩, ⟨%d10, %g4, -, HS4⟩, ⟨%d11, %g5, -, HS5⟩, Hk⟩
  sl_exec (disch := first | sl_exact hi)
  sl_step
  iapply Hk
  have l0 := (View.readAt_full arg1.view f0 inb_S1x256x768_S1x256x768_0_0_0).trans hf0
  have l1 := (View.readAt_full arg2.view f1 inb_S1x256x768_S1x256x768_0_0_0).trans hf1
  have l2 := (View.readAt_full arg3.view f2 inb_S1x256x768_S1x256x768_0_0_0).trans hf2
  have l3 := (View.readAt_full arg4.view f3 inb_S768x768_S768x768_0_0).trans hf3
  have l4 := (View.readAt_full arg5.view f4 inb_S768x768_S768x768_0_0).trans hf4
  have l5 := (View.readAt_full arg6.view f5 inb_S768x768_S768x768_0_0).trans hf5
  have l6 := (View.readAt_full arg7.view f6 inb_S768x768_S768x768_0_0).trans hf6
  have k5 : ∀ w : Vec Ideal S768x768 .bf16, arg14.view.readCov [⟨Rect.unit ![0, 0] S768x768.size inb_S768x768_S768x768_0_0, w⟩]
      (Rect.unit ![0, 0] ![768, 768] inb_S768x768_S768x768_0_0).toLoadRect = w := fun w => View.readCov_full arg14.view _ _ w []
  have p9 : ∀ w : Vec Ideal S256x768 .bf16, arg9.view.read (Elt Ideal) (arg9.view.writes (Elt Ideal) g0
      [⟨Rect.unit (k0_off1 i) S256x768.size (k0_off1_inb i), w⟩, ⟨Rect.unit ![0, 0] S32x768.size inb_S2080x768_S32x768_0_0, k0_pay3 (F := Ideal)⟩])
      = addRows i (top X9 (k0_pay3 (F := Ideal))) w := fun w => by
    rw [View.read_writes_cons_put _ _ _ _ _ rfl, View.read_writes_cons_put _ _ _ _ _ rfl, ← hg0]; rfl
  have p10 : ∀ w : Vec Ideal S256x768 .bf16, arg10.view.read (Elt Ideal) (arg10.view.writes (Elt Ideal) g1
      [⟨Rect.unit (k0_off1 i) S256x768.size (k0_off1_inb i), w⟩, ⟨Rect.unit ![0, 0] S32x768.size inb_S2080x768_S32x768_0_0, k0_pay4 (F := Ideal)⟩])
      = addRows i (top X10 (k0_pay4 (F := Ideal))) w := fun w => by
    rw [View.read_writes_cons_put _ _ _ _ _ rfl, View.read_writes_cons_put _ _ _ _ _ rfl, ← hg1]; rfl
  isplitl [H0]; · iexists f0; isplitr [H0]; · ipureintro; exact hf0
                  · iexact H0
  isplitl [H1]; · iexists f1; isplitr [H1]; · ipureintro; exact hf1
                  · iexact H1
  isplitl [H2]; · iexists f2; isplitr [H2]; · ipureintro; exact hf2
                  · iexact H2
  isplitl [H3]; · iexists f3; isplitr [H3]; · ipureintro; exact hf3
                  · iexact H3
  isplitl [H4]; · iexists f4; isplitr [H4]; · ipureintro; exact hf4
                  · iexact H4
  isplitl [H5]; · iexists f5; isplitr [H5]; · ipureintro; exact hf5
                  · iexact H5
  isplitl [H6]; · iexists f6; isplitr [H6]; · ipureintro; exact hf6
                  · iexact H6
  isplitl [H7]; · iexists _; isplitr [H7]; rotate_left 1
                  · iexact H7
                  · ipureintro
                    refine (View.read_writes_full _ _ _ _ _).trans ?_
                    sl_unfold_run_names
                    rw [l0, l1, l2, l3, l4, l5, l6, View.readCov_full arg11.view, View.readCov_full arg12.view,
                      View.readCov_full arg13.view, k5, View.readAt_unit arg9.view _ _ rfl (k0_off2_inb i), p9,
                      View.readAt_unit arg10.view _ _ rfl (k0_off2_inb i), p10]
                    rfl
  isplitl [HS0]; · iexists _; isplitr [HS0]; rotate_left 1
                   · iexact HS0
                   · ipureintro
                     sl_unfold_run_names
                     rw [l1, l4, View.readCov_full]; exact p9 _
  isplitl [HS1]; · iexists _; isplitr [HS1]; rotate_left 1
                   · iexact HS1
                   · ipureintro
                     sl_unfold_run_names
                     rw [l2, l5, View.readCov_full]; exact p10 _
  isplitl [HS2]; · iexists _; isplitr [HS2]; rotate_left 1
                   · iexact HS2
                   · ipureintro
                     sl_unfold_run_names
                     rw [l3]; exact View.read_writes_full _ _ _ _ _
  isplitl [HS3]; · iexists _; isplitr [HS3]; rotate_left 1
                   · iexact HS3
                   · ipureintro
                     sl_unfold_run_names
                     rw [l4]; exact View.read_writes_full _ _ _ _ _
  isplitl [HS4]; · iexists _; isplitr [HS4]; rotate_left 1
                   · iexact HS4
                   · ipureintro
                     sl_unfold_run_names
                     rw [l5]; exact View.read_writes_full _ _ _ _ _
  iexists _; isplitr [HS5]; rotate_left 1
  · iexact HS5
  · ipureintro
    sl_unfold_run_names
    rw [l6]; exact View.read_writes_full _ _ _ _ _

end Cert.KernelIdeal.Body

end
-- ==== Proof.Scratch.lean ====
/- The scratches of projected keys and values, as functions of the arrays: what a point adds, what they hold before each
   point, and the window a point reads of them. -/
module

public import proofs.«01_k».proof.Proof.Body
public import Idealize.ShloMosaic.Lib.Pointwise
public import Idealize.ShloMosaic.Lib.Pipeline.ValueKit

@[expose] public section

set_option maxRecDepth 16384

noncomputable section

namespace Cert.KernelIdeal.Scratch

open Idealize.ShloMosaic Idealize.ShloMosaic.TcCoe Idealize.SL.Sem
open Cert.KernelIdeal Cert.KernelIdeal.Gen Cert.KernelIdeal.Body

variable (m : (ℓ : Loc nD τ sig) → Buf (Elt Ideal) ℓ)

/-! ## The stored vectors, one element at a time -/

/-- The projected key rows of a block. -/
theorem pay9_apply (x : Vec Ideal S1x256x768 .f32) (w : Vec Ideal S768x768 .bf16) (a : Fin 256) (b : Fin 768) :
    k0_pay9 x w (ix2 a b) = ∑ k : Fin 768, x (ix3 0 a k) * w (ix2 k b) := by
  unfold k0_pay9
  pointwise

/-- The projected value rows of a block: the same arithmetic. -/
theorem pay10_eq (x : Vec Ideal S1x256x768 .f32) (w : Vec Ideal S768x768 .bf16) : k0_pay10 x w = k0_pay9 x w := rfl

/-- The scaled query weights. -/
theorem pay5_apply (w : Vec Ideal S768x768 .f32) (a b : Fin 768) :
    k0_pay5 w (ix2 a b) = w (ix2 a b) * (((8 * (Real.log 2))⁻¹ : ℝ) : EReal) := by
  have h : Named.named (F := Ideal) Cert.KernelIdeal.κ "scale2" (φ := .f32) 0x3E38AA3B#32 = (((8 * (Real.log 2))⁻¹ : ℝ) : EReal) :=
    IdealRules.named_const.ideal_named_scalar _ _ _ _ rfl
  unfold k0_pay5
  pointwise
  rw [h]

/-- The other weights are kept as they are. -/
theorem pay6_apply (w : Vec Ideal S768x768 .f32) (a b : Fin 768) : k0_pay6 w (ix2 a b) = w (ix2 a b) := by
  unfold k0_pay6
  pointwise

theorem pay7_apply (w : Vec Ideal S768x768 .f32) (a b : Fin 768) : k0_pay7 w (ix2 a b) = w (ix2 a b) := by
  unfold k0_pay7
  pointwise

theorem pay8_apply (w : Vec Ideal S768x768 .f32) (a b : Fin 768) : k0_pay8 w (ix2 a b) = w (ix2 a b) := by
  unfold k0_pay8
  pointwise

/-- The rows above the first key are zero. -/
theorem pay3_apply (a : Fin 32) (b : Fin 768) : k0_pay3 (F := Ideal) (ix2 a b) = 0 := by
  unfold k0_pay3
  pointwise

theorem pay4_eq : k0_pay4 (F := Ideal) = k0_pay3 := rfl

/-! ## The blocks a point reads -/

/-- Which block each window is at, at every point. -/
theorem idx : ∀ t : Fin cfg0.N, win0_0.index t = ![0, t.val - 1, 0] ∧ win0_1.index t = ![0, min t.val 7, 0]
    ∧ win0_2.index t = ![0, min t.val 7, 0] ∧ win0_3.index t = ![0, 0] ∧ win0_4.index t = ![0, 0] ∧ win0_5.index t = ![0, 0]
    ∧ win0_6.index t = ![0, 0] ∧ win0_7.index t = ![0, t.val - 1, 0] :=
  (by decide +kernel : ∀ t : Fin grid0.N, _)

theorem coord : ∀ t : Fin cfg0.N, ((grid0.coords t) 0).val = t.val := (by decide +kernel : ∀ t : Fin grid0.N, _)

theorem lt9 (t : Fin cfg0.N) : t.val < 9 := lt_of_lt_of_eq t.isLt (show cfg0.N = 9 from N_0)

/-- The query block. -/
theorem iblk0_apply (c : Dev nD) (t : Fin cfg0.N) (a : Fin 256) (k : Fin 768) :
    iblk m c 0 t (ix3 0 a k) = m ((c : Thread nD τ).loc main_arg0) (ix3 0 ⟨256 * (t.val - 1) + a.val, by have := lt9 t; omega⟩ k) := by
  blk_ext [iblk, V, idx t]

/-- The key block. -/
theorem iblk1_apply (c : Dev nD) (t : Fin cfg0.N) (a : Fin 256) (k : Fin 768) :
    iblk m c 1 t (ix3 0 a k) = m ((c : Thread nD τ).loc main_arg1) (ix3 0 ⟨256 * min t.val 7 + a.val, by omega⟩ k) := by
  blk_ext [iblk, V, idx t]

/-- The value block. -/
theorem iblk2_apply (c : Dev nD) (t : Fin cfg0.N) (a : Fin 256) (k : Fin 768) :
    iblk m c 2 t (ix3 0 a k) = m ((c : Thread nD τ).loc main_arg2) (ix3 0 ⟨256 * min t.val 7 + a.val, by omega⟩ k) := by
  blk_ext [iblk, V, idx t]

/-- The weights' blocks are the whole arrays. -/
theorem iblk3_eq (c : Dev nD) (t : Fin cfg0.N) : iblk m c 3 t = m ((c : Thread nD τ).loc main_arg3) := by
  blk_ext! [iblk, V, idx t]
theorem iblk4_eq (c : Dev nD) (t : Fin cfg0.N) : iblk m c 4 t = m ((c : Thread nD τ).loc main_arg4) := by
  blk_ext! [iblk, V, idx t]
theorem iblk5_eq (c : Dev nD) (t : Fin cfg0.N) : iblk m c 5 t = m ((c : Thread nD τ).loc main_arg5) := by
  blk_ext! [iblk, V, idx t]
theorem iblk6_eq (c : Dev nD) (t : Fin cfg0.N) : iblk m c 6 t = m ((c : Thread nD τ).loc main_arg6) := by
  blk_ext! [iblk, V, idx t]

/-! ## What a scratch holds -/

/-- The whole scratch: 32 rows of zero, then every row of `x` times `w`. -/
def padded (x : Vec Ideal S1x2048x768 .f32) (w : Vec Ideal S768x768 .bf16) : Vec Ideal S2080x768 .bf16 := fun j =>
  if (j 0).val < 32 then (0 : EReal)
  else ∑ k : Fin 768, x (ix3 0 ⟨(j 0).val - 32, by have : (j 0).val < 2080 := (j 0).isLt; omega⟩ k) * w (ix2 k (j 1))

/-- Before point `n` a scratch holds its first rows: the zero rows and the rows of the blocks already projected. -/
def Filled (n : ℕ) (G X : Vec Ideal S2080x768 .bf16) : Prop :=
  ∀ j : S2080x768.Idx, (j 0).val < 32 + 256 * min n 8 → X j = G j

/-- A point adds its block's rows. -/
theorem filled_add (x : Vec Ideal S1x2048x768 .f32) (w : Vec Ideal S768x768 .bf16) (t : Fin cfg0.N) (X : Vec Ideal S2080x768 .bf16)
    (b : Vec Ideal S1x256x768 .f32)
    (hb : ∀ (a : Fin 256) (k : Fin 768), b (ix3 0 a k) = x (ix3 0 ⟨256 * min t.val 7 + a.val, by omega⟩ k))
    (h : Filled t.val (padded x w) X) : Filled (t.val + 1) (padded x w) (addRows (grid0.coords t) X (k0_pay9 b w)) := by
  intro j hj
  have hc := coord t
  have ht := lt9 t
  have hj0 : (j 0).val < 2080 := (j 0).isLt
  have hj1 : (j 1).val < 768 := (j 1).isLt
  unfold addRows VecWindow.put
  rw [k0_off1_eq, hc]
  by_cases hin : ∀ a, (![256 * min t.val 7 + 32, 0] : Fin 2 → ℕ) a ≤ (j a).val ∧ (j a).val < (![256 * min t.val 7 + 32, 0] : Fin 2 → ℕ) a + S256x768.size a
  · rw [dif_pos hin]
    have h0 := hin 0
    have h0l : 256 * min t.val 7 + 32 ≤ (j 0).val := h0.1
    have h0r : (j 0).val < 256 * min t.val 7 + 32 + 256 := h0.2
    have e : Rect.unitLocal (s := S2080x768) (off := ![256 * min t.val 7 + 32, 0]) (size := S256x768.size) j hin
        = ix2 (⟨(j 0).val - (256 * min t.val 7 + 32), by omega⟩ : Fin 256) (j 1) := by
      funext a; apply Fin.ext
      match a with
      | ⟨0, _⟩ => rfl
      | ⟨1, _⟩ => show (j 1).val - 0 = (j 1).val; omega
    refine (congrArg (k0_pay9 b w) e).trans ((pay9_apply b w _ _).trans ?_)
    have hj2 : ¬ (j 0).val < 32 := by omega
    unfold padded
    rw [if_neg hj2]
    refine Finset.sum_congr rfl fun k _ => congrArg (· * w (ix2 k (j 1))) ((hb _ k).trans (congrArg (fun r => x (ix3 0 r k)) (Fin.ext ?_)))
    show 256 * min t.val 7 + ((j 0).val - (256 * min t.val 7 + 32)) = (j 0).val - 32
    omega
  · rw [dif_neg hin]
    refine h j ?_
    by_contra hlt
    refine hin fun a => ?_
    match a with
    | ⟨0, _⟩ => show 256 * min t.val 7 + 32 ≤ (j 0).val ∧ (j 0).val < 256 * min t.val 7 + 32 + 256; omega
    | ⟨1, _⟩ => show 0 ≤ (j 1).val ∧ (j 1).val < 0 + 768; omega

/-- The first point's zero rows are the scratch's first 32. -/
theorem filled_top (x : Vec Ideal S1x2048x768 .f32) (w : Vec Ideal S768x768 .bf16) (X : Vec Ideal S2080x768 .bf16) :
    Filled 0 (padded x w) (top X (k0_pay3 (F := Ideal))) := by
  intro j hj
  have hj1 : (j 1).val < 768 := (j 1).isLt
  have hj0 : (j 0).val < 32 := by omega
  unfold top VecWindow.put
  have hin : ∀ a, (![0, 0] : Fin 2 → ℕ) a ≤ (j a).val ∧ (j a).val < (![0, 0] : Fin 2 → ℕ) a + S32x768.size a := fun a => by
    match a with
    | ⟨0, _⟩ => show 0 ≤ (j 0).val ∧ (j 0).val < 0 + 32; omega
    | ⟨1, _⟩ => show 0 ≤ (j 1).val ∧ (j 1).val < 0 + 768; omega
  rw [dif_pos hin]
  have e : Rect.unitLocal (s := S2080x768) (off := ![0, 0]) (size := S32x768.size) j hin = ix2 (⟨(j 0).val, hj0⟩ : Fin 32) (j 1) := by
    funext a; apply Fin.ext
    match a with
    | ⟨0, _⟩ => show (j 0).val - 0 = (j 0).val; omega
    | ⟨1, _⟩ => show (j 1).val - 0 = (j 1).val; omega
  refine (congrArg (k0_pay3 (F := Ideal)) e).trans ((pay3_apply _ _).trans ?_)
  unfold padded
  rw [if_pos hj0]

/-- After its point, a scratch's window is the whole scratch's: the rows the point reads are there. -/
theorem look_eq (G X : Vec Ideal S2080x768 .bf16) (t : Fin cfg0.N) (h : Filled (t.val + 1) G X) :
    look (grid0.coords t) X = look (grid0.coords t) G := by
  have hc := coord t
  have ht := lt9 t
  funext y
  have hy : (y 0).val < 288 := (y 0).isLt
  refine h _ ?_
  have e : k0_off2 (grid0.coords t) 0 = 256 * (t.val - 1) := by rw [off2_eq, hc]; rfl
  show k0_off2 (grid0.coords t) 0 + 1 * (y 0).val < _
  omega

/-- The window a point reads, one element at a time: its row `r` is the scratch's row `256 · block + r`. -/
theorem look_apply (G : Vec Ideal S2080x768 .bf16) (t : Fin cfg0.N) (r : Fin 288) (k : Fin 768) :
    look (grid0.coords t) G (ix2 r k) = G (ix2 ⟨256 * (t.val - 1) + r.val, by have := lt9 t; omega⟩ k) := by
  have hc := coord t
  refine congrArg G (funext fun a => Fin.ext ?_)
  match a with
  | ⟨0, _⟩ =>
    have e : k0_off2 (grid0.coords t) 0 = 256 * (t.val - 1) := by rw [off2_eq, hc]; rfl
    show k0_off2 (grid0.coords t) 0 + 1 * r.val = 256 * (t.val - 1) + r.val
    omega
  | ⟨1, _⟩ =>
    have e : k0_off2 (grid0.coords t) 1 = 0 := by rw [off2_eq]; rfl
    show k0_off2 (grid0.coords t) 1 + 1 * k.val = k.val
    omega

end Cert.KernelIdeal.Scratch

end
-- ==== Proof.Launch.lean ====
/- The kernel's launch: what its arrays hold at the end. Point by point the scratches hold the projected keys and values of the
   blocks met so far, and every point leaves in the output's buffer the tile of its block. -/
module

public import proofs.«01_k».proof.Proof.Scratch
public import Idealize.ShloMosaic.Lib.Claim

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.KernelIdeal.Body Cert.KernelIdeal.Scratch Cert.KernelIdeal.Tile

local notation "𝕄" => MT nD τ sig Unit (Elt Ideal) ℕ (UR sig nD τ) ℕ

variable (m : (ℓ : Loc nD τ sig) → Buf (Elt Ideal) ℓ) (ρ : Dev nD → PrngReg)

/-! ## What the launch computes -/

/-- The argument arrays, as vectors. -/
abbrev arg0 (c : Dev nD) : Vec Ideal S1x2048x768 .f32 := m ((c : Thread nD τ).loc main_arg0)
abbrev arg1 (c : Dev nD) : Vec Ideal S1x2048x768 .f32 := m ((c : Thread nD τ).loc main_arg1)
abbrev arg2 (c : Dev nD) : Vec Ideal S1x2048x768 .f32 := m ((c : Thread nD τ).loc main_arg2)
abbrev arg3 (c : Dev nD) : Vec Ideal S768x768 .f32 := m ((c : Thread nD τ).loc main_arg3)
abbrev arg4 (c : Dev nD) : Vec Ideal S768x768 .f32 := m ((c : Thread nD τ).loc main_arg4)
abbrev arg5 (c : Dev nD) : Vec Ideal S768x768 .f32 := m ((c : Thread nD τ).loc main_arg5)
abbrev arg6 (c : Dev nD) : Vec Ideal S768x768 .f32 := m ((c : Thread nD τ).loc main_arg6)

/-- The projected keys and values, with the zero rows above them. -/
abbrev keys (c : Dev nD) : Vec Ideal S2080x768 .bf16 := padded (arg1 m c) (k0_pay6 (arg4 m c))
abbrev vals (c : Dev nD) : Vec Ideal S2080x768 .bf16 := padded (arg2 m c) (k0_pay7 (arg5 m c))

/-- The tile a point leaves in the output's buffer. -/
def out (c : Dev nD) (t : Fin cfg0.N) : Vec Ideal S1x256x768 .f32 :=
  tile (blockNo (grid0.coords t)) (iblk m c 0 t) (k0_pay5 (arg3 m c)) (look (grid0.coords t) (keys m c)) (look (grid0.coords t) (vals m c))
    (k0_pay8 (arg6 m c))

/-! ## The invariant between points -/

abbrev stage0 (t : Fin cfg0.N) : Memref sig .tc .vmem S1x256x768 .f32 := win0_0.stage (cfg0.slots t 0)
abbrev stage1 (t : Fin cfg0.N) : Memref sig .tc .vmem S1x256x768 .f32 := win0_1.stage (cfg0.slots t 1)
abbrev stage2 (t : Fin cfg0.N) : Memref sig .tc .vmem S1x256x768 .f32 := win0_2.stage (cfg0.slots t 2)
abbrev stage3 (t : Fin cfg0.N) : Memref sig .tc .vmem S768x768 .f32 := win0_3.stage (cfg0.slots t 3)
abbrev stage4 (t : Fin cfg0.N) : Memref sig .tc .vmem S768x768 .f32 := win0_4.stage (cfg0.slots t 4)
abbrev stage5 (t : Fin cfg0.N) : Memref sig .tc .vmem S768x768 .f32 := win0_5.stage (cfg0.slots t 5)
abbrev stage6 (t : Fin cfg0.N) : Memref sig .tc .vmem S768x768 .f32 := win0_6.stage (cfg0.slots t 6)
abbrev stage7 (t : Fin cfg0.N) : Memref sig .tc .vmem S1x256x768 .f32 := win0_7.stage (cfg0.slots t 7)
abbrev scr0 : Memref sig .tc .vmem S2080x768 .bf16 := Memref.whole cc0_scratch0
abbrev scr1 : Memref sig .tc .vmem S2080x768 .bf16 := Memref.whole cc0_scratch1
abbrev scr2 : Memref sig .tc .vmem S768x768 .bf16 := Memref.whole cc0_scratch2
abbrev scr3 : Memref sig .tc .vmem S768x768 .bf16 := Memref.whole cc0_scratch3
abbrev scr4 : Memref sig .tc .vmem S768x768 .bf16 := Memref.whole cc0_scratch4
abbrev scr5 : Memref sig .tc .vmem S768x768 .bf16 := Memref.whole cc0_scratch5

/-- What the launch hands the first point: the six scratches at anything. -/
theorem handed_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
  unfold Pipeline.ΦA; rw [scopedRest0_eq]; simp only [scr0, scr1, scr2, scr3, scr4, scr5, owns_whole]; try rfl

/-- Before point `n + 1`: the scratches of keys and values filled as far as the points so far go, the weights in their scratches. -/
def after (c : Dev nD) (n : ℕ) : sProp 𝕄 :=
  iprop(iprop((∃ X, iprop(⌜Filled n (keys m c) X⌝ ∗ owns (c : Thread nD τ) scr0 fullShare X))
      ∗ (∃ X, iprop(⌜Filled n (vals m c) X⌝ ∗ owns (c : Thread nD τ) scr1 fullShare X))
      ∗ owns (c : Thread nD τ) scr2 fullShare (k0_pay5 (arg3 m c))
      ∗ owns (c : Thread nD τ) scr3 fullShare (k0_pay6 (arg4 m c))
      ∗ owns (c : Thread nD τ) scr4 fullShare (k0_pay7 (arg5 m c))
      ∗ owns (c : Thread nD τ) scr5 fullShare (k0_pay8 (arg6 m c))) ∗ (∃ r, prngReg c r))

/-- Before point `n`: at the first, what the launch hands over. -/
def inv (c : Dev nD) : ℕ → sProp 𝕄
  | 0 => Pipeline.ΦA spec0 c
  | n + 1 => after m c (n + 1)

theorem inv_pos (c : Dev nD) (n : ℕ) (h : n ≠ 0) : inv m c n = after m c n := by
  cases n with
  | zero => exact absurd rfl h
  | succ n => rfl

/-- The proof data of the launch: the arrays as they are found; after a point each input's buffer at its block, the output's at
    the point's tile. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out m c t
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = out m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body at a point -/

/-- The body initialises its scratch at the first point and at no other. -/
theorem first_iff : ∀ t : Fin cfg0.N, first (grid0.coords t) ↔ t.val = 0 := (by decide +kernel : ∀ t : Fin grid0.N, _)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare ((dats m 0 c).before 6 t d))
    ∗ (∃ d, owns (c : Thread nD τ) (stage7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t)
    ∗ owns (c : Thread nD τ) (stage3 t) fullShare ((dats m 0 c).after 3 t)
    ∗ owns (c : Thread nD τ) (stage4 t) fullShare ((dats m 0 c).after 4 t)
    ∗ owns (c : Thread nD τ) (stage5 t) fullShare ((dats m 0 c).after 5 t)
    ∗ owns (c : Thread nD τ) (stage6 t) fullShare ((dats m 0 c).after 6 t)
    ∗ owns (c : Thread nD τ) (stage7 t) fullShare ((dats m 0 c).after 7 t))

set_option maxHeartbeats 4000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6, after_7]
  rw [show (dats m 0 c).Φ t.succ = after m c (t.val + 1) from rfl, show (dats m 0 c).Φ t.castSucc = inv m c t.val from rfl]
  simp only [out, iblk3_eq, iblk4_eq, iblk5_eq, iblk6_eq]
  by_cases h0 : t.val = 0
  · have k0 : Filled t.val (keys m c) = Filled 0 (keys m c) := by rw [h0]
    have v0 : Filled t.val (vals m c) = Filled 0 (vals m c) := by rw [h0]
    have fk := fun X => filled_add (arg1 m c) (k0_pay6 (arg4 m c)) t (top X (k0_pay3 (F := Ideal))) (iblk m c 1 t)
      (iblk1_apply m c t) (k0 ▸ filled_top _ _ X)
    have fv := fun X => filled_add (arg2 m c) (k0_pay7 (arg5 m c)) t (top X (k0_pay3 (F := Ideal))) (iblk m c 2 t)
      (iblk2_apply m c t) (v0 ▸ filled_top _ _ X)
    rw [show inv m c t.val = Pipeline.ΦA spec0 c from by rw [h0]; rfl, handed_eq]
    unfold after
    iintro ⟨⟨⟨⟨%X9, HS0⟩, ⟨%X10, HS1⟩, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    rw [← look_eq _ _ t (fk X9), ← look_eq _ _ t (fv X10)]
    iapply (run_first c (grid0.coords t)  _ _ _ _ _ _ _ _ _ _ _ _ _ _ _ _ _ _ _ _ _ _ _ _ _ _ _ _ ((first_iff t).mpr h0) (iblk m c 0 t) (iblk m c 1 t) (iblk m c 2 t)
      (arg3 m c) (arg4 m c) (arg5 m c) (arg6 m c) X9 X10 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, HS0, HS1, HS2, HS3, HS4, HS5⟩
    isplitl [HS0 HS1 HS2 HS3 HS4 HS5 Hg]
    · isplitl [HS0 HS1 HS2 HS3 HS4 HS5]
      · isplitl [HS0]; · iexists _; isplitr [HS0]; · ipureintro; exact fk X9
                         · iexact HS0
        isplitl [HS1]; · iexists _; isplitr [HS1]; · ipureintro; exact fv X10
                         · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [inv_pos m c _ h0]
    unfold after
    iintro ⟨⟨⟨⟨%X9, %hX9, HS0⟩, ⟨%X10, %hX10, HS1⟩, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have fk := filled_add (arg1 m c) (k0_pay6 (arg4 m c)) t X9 (iblk m c 1 t) (iblk1_apply m c t) hX9
    have fv := filled_add (arg2 m c) (k0_pay7 (arg5 m c)) t X10 (iblk m c 2 t) (iblk2_apply m c t) hX10
    rw [← look_eq _ _ t fk, ← look_eq _ _ t fv]
    iapply (run_later c (grid0.coords t)  _ _ _ _ _ _ _ _ _ _ _ _ _ _ _ _ _ _ _ _ _ _ _ _ _ _ _ _ (fun h => h0 ((first_iff t).mp h)) (iblk m c 0 t) (iblk m c 1 t) (iblk m c 2 t)
      (arg3 m c) (arg4 m c) (arg5 m c) (arg6 m c) X9 X10 (k0_pay5 (arg3 m c)) (k0_pay6 (arg4 m c)) (k0_pay7 (arg5 m c)) (k0_pay8 (arg6 m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, HS0, HS1, HS2, HS3, HS4, HS5⟩
    isplitl [HS0 HS1 HS2 HS3 HS4 HS5 Hg]
    · isplitl [HS0 HS1 HS2 HS3 HS4 HS5]
      · isplitl [HS0]; · iexists _; isplitr [HS0]; · ipureintro; exact fk
                         · iexact HS0
        isplitl [HS1]; · iexists _; isplitr [HS1]; · ipureintro; exact fv
                         · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) :
    defs₀ (F := Ideal) .tc cfg0.body (cfg0.bodyArgs t (cfg0.slots t)) = bodyAt0 t := by
  unfold defs₀; rw [Defs.onTc_tc]

/-- The obligation of the launch, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

/-- After the last point the scratches' contents are forgotten. -/
theorem hout (c : Dev nD) : (dats m 0 c).Φ (Fin.last cfg0.N) ⊢ Pipeline.ΦA spec0 c := by
  rw [show (dats m 0 c).Φ (Fin.last cfg0.N) = inv m c cfg0.N from rfl, inv_pos m c _ (by rw [show cfg0.N = 9 from N_0]; decide), handed_eq]
  unfold after
  iintro ⟨⟨⟨%X9, -, HS0⟩, ⟨%X10, -, HS1⟩, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

set_option backward.isDefEq.respectTransparency.types false in
/-- THE LAUNCH: the program ends, every array at what the points wrote back to it, every counter at zero. -/
theorem run_quiescent : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_quiescent m ρ)

/-- THE FRAME: the program ends with its argument arrays unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.KernelIdeal.Launch

end
-- ==== Proof.Head.lean ====
/- One attention head of a tile, at any column offset, and the tile as the twelve of them side by side times the output
   weights; both read one element at a time. -/
module

public import proofs.«01_k».proof.Proof.Tile
public import Idealize.ShloMosaic.Lib.Pointwise
public import Idealize.ShloMosaic.Lib.WordCmp

@[expose] public section

set_option maxRecDepth 16384

noncomputable section

namespace Cert.KernelIdeal.Head

open Idealize.ShloMosaic Idealize.SL.Sem
open Cert.KernelIdeal Cert.KernelIdeal.Gen Cert.KernelIdeal.Tile

/-- The slices of a head lie inside the projected vectors. -/
theorem slicesQ (h : Fin 12) : S256x768.Slices ![0, 64 * h.val] S256x64 := by
  revert h; decide
theorem slicesK (h : Fin 12) : S288x768.Slices ![0, 64 * h.val] S288x64 := by
  revert h; decide

/-- The scores of head `h`: queries times keys, plus the mask. -/
def scores (Q : FVec Ideal S256x768 .bf16) (K : FVec Ideal S288x768 .bf16) (B : FVec Ideal S256x288 .bf16) (h : Fin 12) :
    FVec Ideal S256x288 .bf16 :=
  addf (truncf .bf16 (matmul dot_S256x64_S288x64_S256x288_1_1_0_0_n_n none
      (extractStridedSlice S256x64 ![0, 64 * h.val] Q (slicesQ h)) (extractStridedSlice S288x64 ![0, 64 * h.val] K (slicesK h))
      (constant S256x288 .f32 0x00000000#32)) bitsLt_bf16_f32) B

/-- The unnormalised weights of a head: two to the power of each score less its row's greatest. -/
def powers (s : FVec Ideal S256x288 .bf16) : FVec Ideal S256x288 .bf16 :=
  exp2 (subf s (broadcastTo S256x288 (shapeCast S256x1
    (multiReduction .maximumf [1] S256 s 0xFF80#16 reduces_S256x288_S256 (.inr rfl) rfl) shapeCasts_S256_S256x1) broadcasts_S256x1_S256x288))

/-- The head's output: the weighted values over the weights' sum, which the appended column of ones computes. -/
def weighted (p : FVec Ideal S256x288 .bf16) (V : FVec Ideal S288x768 .bf16) (h : Fin 12) : FVec Ideal S256x64 .f32 :=
  let pv := matmul dot_S256x288_S288x65_S256x65_1_0_0_1_n_n none p
    (concatenate S288x65 1 [⟨S288x64, extractStridedSlice S288x64 ![0, 64 * h.val] V (slicesK h)⟩, ⟨S288x1, (k0_pay12 : FVec Ideal S288x1 .bf16)⟩]
      concatenates_S288x64_S288x1_S288x65_d1) (constant S256x65 .f32 0x00000000#32)
  mulf (extractStridedSlice S256x64 ![0, 0] pv slices_S256x65_o0_0_S256x64)
    (broadcastTo S256x64 (divf (broadcast S256x1 (Scalar.ofBits .f32 0x3F800000#32))
      (extractStridedSlice S256x1 ![0, 64] pv slices_S256x65_o0_64_S256x1)) broadcasts_S256x1_S256x64)

/-- Head `h`. -/
def head (Q : FVec Ideal S256x768 .bf16) (K V : FVec Ideal S288x768 .bf16) (B : FVec Ideal S256x288 .bf16) (h : Fin 12) :
    FVec Ideal S256x64 .f32 := weighted (powers (scores Q K B h)) V h

/-- The twelve heads side by side. -/
def beside (H : Fin 12 → FVec Ideal S256x64 .f32) : FVec Ideal S256x768 .f32 :=
  concatenate S256x768 1 (List.ofFn fun h : Fin 12 => ⟨S256x64, H h⟩)
    concatenates_S256x64_S256x64_S256x64_S256x64_S256x64_S256x64_S256x64_S256x64_S256x64_S256x64_S256x64_S256x64_S256x768_d1

/-- The twelve heads side by side, times the output weights. -/
def joined (H : Fin 12 → FVec Ideal S256x64 .f32) (wo : FVec Ideal S768x768 .bf16) : FVec Ideal S1x256x768 .f32 :=
  shapeCast S1x256x768 (matmul dot_S256x768_S768x768_S256x768_1_0_0_1_n_n none
    (truncf .bf16 (beside H) bitsLt_bf16_f32)
    wo (constant S256x768 .f32 0x00000000#32)) shapeCasts_S256x768_S1x256x768

/-- The tile the kernel stores is the twelve heads', joined. -/
theorem tile_eq (b : BitVec 32) (x : Vec Ideal S1x256x768 .f32) (wq : FVec Ideal S768x768 .bf16) (K V : FVec Ideal S288x768 .bf16)
    (wo : FVec Ideal S768x768 .bf16) :
    tile b x wq K V wo = joined (head (k0_pay11 x wq) K V (k0_pay13 b)) wo := rfl

theorem scores_apply (Q : FVec Ideal S256x768 .bf16) (K : FVec Ideal S288x768 .bf16) (B : FVec Ideal S256x288 .bf16) (h : Fin 12)
    (a : Fin 256) (n : Fin 288) :
    scores Q K B h (ix2 a n) = (∑ k : Fin 64, Q (ix2 a ⟨64 * h.val + k.val, by omega⟩) * K (ix2 n ⟨64 * h.val + k.val, by omega⟩)) + B (ix2 a n) := by
  unfold scores
  pointwise

theorem powers_apply (s : FVec Ideal S256x288 .bf16) (a : Fin 256) (n : Fin 288) :
    powers s (ix2 a n)
      = FloatOps.exp2 (F := Ideal) (φ := .bf16) (s (ix2 a n) - Finset.fold max (Ideal.ofBits .bf16 0xFF80#16) (fun x => s (ix2 a x)) Finset.univ) := by
  unfold powers
  pointwise

theorem weighted_apply (p : FVec Ideal S256x288 .bf16) (V : FVec Ideal S288x768 .bf16) (h : Fin 12) (a : Fin 256) (d : Fin 64) :
    weighted p V h (ix2 a d)
      = (∑ x, p (ix2 a x) * V (ix2 x ⟨64 * h.val + d.val, by omega⟩)) * Ideal.div 1 (∑ x, p (ix2 a x)) := by
  unfold weighted k0_pay12
  pointwise

/-- Column `x` of the twelve heads side by side is column `x % 64` of head `x / 64`. -/
theorem beside_apply (H : Fin 12 → FVec Ideal S256x64 .f32) (a : Fin 256) (x : Fin 768) :
    beside H (ix2 a x) = H ⟨x.val / 64, by omega⟩ (ix2 a (⟨x.val % 64, by omega⟩ : Fin 64)) :=
  concatenate_ofFn_apply (t := S256x768) (s₁ := S256x64) 1 H _ rfl 64 rfl (ix2 a x) ⟨x.val / 64, by omega⟩ rfl
    (ix2 a (⟨x.val % 64, by omega⟩ : Fin 64)) rfl (by
      intro b hb
      match b, hb with
      | 0, _ => rfl
      | 1, hb => exact absurd rfl hb)

/-- The tile at row `a`, output column `j`: every head's output at that row, times the output weights. -/
theorem joined_apply (H : Fin 12 → FVec Ideal S256x64 .f32) (wo : FVec Ideal S768x768 .bf16) (a : Fin 256) (j : Fin 768) :
    joined H wo (ix3 0 a j)
      = ∑ x : Fin 768, H ⟨x.val / 64, by omega⟩ (ix2 a (⟨x.val % 64, by omega⟩ : Fin 64)) * wo (ix2 x j) := by
  unfold joined
  pointwise
  exact Finset.sum_congr rfl fun x _ => by rw [beside_apply]

/-- Minus infinity, as the kernel writes it. -/
theorem bot32 : Ideal.ofBits .f32 0xFF800000#32 = ⊥ := by simp [Ideal.ofBits, Ideal.ieee]
theorem bot16 : Ideal.ofBits .bf16 0xFF80#16 = ⊥ := by simp [Ideal.ofBits, Ideal.ieee]

theorem blockNo_eq : ∀ t : Fin grid0.N, blockNo (grid0.coords t) = BitVec.ofNat 32 (t.val - 1) := by decide +kernel

/-- The mask's third condition: the window column is not before the first key. -/
theorem started : ∀ (t : Fin 9) (n : Fin 288),
    IntOp.cmpi .sge (IntOp.addi (Scalar.subi (Scalar.addi (Scalar.muli (BitVec.ofNat 32 (t.val - 1)) 256#32) 0#32) 32#32) (BitVec.ofNat 32 n.val)) 0#32
      = BitVec.ofBool (decide (32 ≤ 256 * (t.val - 1) + n.val)) := by decide +kernel

/-- The mask at row `a` and window column `n`. -/
theorem mask_apply (t : Fin 9) (a : Fin 256) (n : Fin 288) :
    k0_pay13 (F := Ideal) (BitVec.ofNat 32 (t.val - 1)) (ix2 a n)
      = if a.val + 1 ≤ n.val ∧ n.val ≤ a.val + 32 ∧ 32 ≤ 256 * (t.val - 1) + n.val then 0 else ⊥ := by
  unfold k0_pay13
  pointwise
  rw [bot32, started t n, show IntOp.addi (BitVec.ofNat 32 a.val) 1#32 = BitVec.ofNat 32 (a.val + 1) from BitVec.ofNat_add_ofNat ..,
    show IntOp.addi (BitVec.ofNat 32 a.val) 32#32 = BitVec.ofNat 32 (a.val + 32) from BitVec.ofNat_add_ofNat ..,
    Idealize.ShloMosaic.WordCmp.cmpi_sge_ofNat (by omega) (by omega), Idealize.ShloMosaic.WordCmp.cmpi_sle_ofNat (by omega) (by omega)]
  by_cases h1 : a.val + 1 ≤ n.val <;> by_cases h2 : n.val ≤ a.val + 32 <;> by_cases h3 : 32 ≤ 256 * (t.val - 1) + n.val <;>
    simp [h1, h2, h3, IntOp.andi, Scalar.select]

end Cert.KernelIdeal.Head

end
-- ==== Proof.Reference.lean ====
/- The reference program in stages, and each stage read one element at a time. -/
module

public import proofs.«01_k».proof.Proof.Gen.ReferenceIdeal.Run
public import Idealize.ShloMosaic.Lib.Pointwise
public import Idealize.ShloMosaic.Lib.WordCmp
public import Idealize.ShloMosaic.Lib.WordArith

@[expose] public section

set_option maxRecDepth 16384

noncomputable section

namespace Cert.ReferenceIdeal.Stages

open Idealize.ShloMosaic Idealize.SL.Sem Idealize.ShloMosaic.TcCoe
open Cert.ReferenceIdeal Cert.ReferenceIdeal.Gen

/-- The key each span row of each query looks at. -/
def position : IVec S32x2048 32 :=
  addi (subi (iotaInDim S32x2048 32 0) (broadcastInDim S32x2048 ![] bcast_S_S32x2048 (constantI S_ 32 31#32)))
    (muli (broadcastInDim S32x2048 ![] bcast_S_S32x2048 (constantI S_ 32 1#32)) (iotaInDim S32x2048 32 1))

/-- Whether there is such a key. -/
def inside : IVec S32x2048 1 :=
  andi (cmpi .sge position (broadcastInDim S32x2048 ![] bcast_S_S32x2048 (constantI S_ 32 0#32)))
    (cmpi .slt position (broadcastInDim S32x2048 ![] bcast_S_S32x2048 (constantI S_ 32 2048#32)))

/-- The position clipped to the keys there are. -/
def clipped : IVec S32x2048 32 :=
  minsi (broadcastInDim S32x2048 ![] bcast_S_S32x2048 (id (constantI S_ 32 2047#32)))
    (maxsi (broadcastInDim S32x2048 ![] bcast_S_S32x2048 (id (constantI S_ 32 0#32))) position)

/-- The rows the gathers read. -/
def starts : IVec S32x2048x1 32 :=
  broadcastInDim S32x2048x1 ![0, 1] bcast_S32x2048_S32x2048x1_0_1
    (select (cmpi .slt clipped (broadcastInDim S32x2048 ![] bcast_S_S32x2048 (constantI S_ 32 0#32)))
      (addi clipped (broadcastInDim S32x2048 ![] bcast_S_S32x2048 (constantI S_ 32 2048#32))) clipped)

/-- A projection, split into heads. -/
def proj (x : FVec Ideal S1x2048x768 .f32) (w : FVec Ideal S768x768 .f32) : FVec Ideal S1x12x2048x64 .f32 :=
  transpose S1x12x2048x64 [0, 2, 1, 3] (shapeCast S1x2048x12x64
    (Host.dotGeneral dot_S1x2048x768_S768x768_S1x2048x768_2_0_01_1_n_n none x w) shapeCasts_S1x2048x768_S1x2048x12x64)
    transposes_S1x2048x12x64_S1x12x2048x64_0_2_1_3

/-- The rows of `X` that the spans look at. -/
def spread (X : FVec Ideal S1x12x2048x64 .f32) : FVec Ideal S1x12x32x2048x64 .f32 :=
  Host.gather gather_S1x12x2048x64_S32x2048x1_S1x12x32x2048x64_014_2_n_n_2_2_112164 X starts

/-- The scores, minus infinity where there is no key. -/
def table (Q Kg : FVec Ideal S1x12x2048x64 .f32) : FVec Ideal S1x12x32x2048 .f32 :=
  select (broadcastInDim S1x12x32x2048 ![0, 1, 2, 3] bcast_S1x1x32x2048_S1x12x32x2048_0_1_2_3
      (broadcastInDim S1x1x32x2048 ![2, 3] bcast_S32x2048_S1x1x32x2048_2_3 inside))
    (Host.divf (Host.reduceAdd (mulf (broadcastInDim S1x12x32x2048x64 ![0, 1, 2, 3, 4] bcast_S1x12x1x2048x64_S1x12x32x2048x64_0_1_2_3_4
          (broadcastInDim S1x12x1x2048x64 ![0, 1, 3, 4] bcast_S1x12x2048x64_S1x12x1x2048x64_0_1_3_4 Q)) (spread Kg))
        (constant S_ .f32 0x00000000#32) reducesTo_S1x12x32x2048x64_S1x12x32x2048_d4 h_S_)
      (broadcastInDim S1x12x32x2048 ![] bcast_S_S1x12x32x2048 (constant S_ .f32 0x41000000#32)))
    (broadcastInDim S1x12x32x2048 ![] bcast_S_S1x12x32x2048 (id (constant S_ .f32 0xFF800000#32)))

/-- The greatest score of each query. -/
def top (T : FVec Ideal S1x12x32x2048 .f32) : FVec Ideal S1x12x2048 .f32 :=
  maximumf (broadcastInDim S1x12x2048 ![] bcast_S_S1x12x2048 (constant S_ .f32 0xFF800000#32))
    (Host.reduce FloatOps.maximumf T (constant S_ .f32 0xFF800000#32) reducesTo_S1x12x32x2048_S1x12x2048_d2 h_S_)

/-- The unnormalised weights. -/
def exps (T : FVec Ideal S1x12x32x2048 .f32) : FVec Ideal S1x12x32x2048 .f32 :=
  Host.exp (subf T (broadcastInDim S1x12x32x2048 ![0, 1, 2, 3] bcast_S1x12x1x2048_S1x12x32x2048_0_1_2_3
    (broadcastInDim S1x12x1x2048 ![0, 1, 3] bcast_S1x12x2048_S1x12x1x2048_0_1_3 (top T))))

/-- The weights: the softmax over a span. -/
def probs (e : FVec Ideal S1x12x32x2048 .f32) : FVec Ideal S1x12x32x2048 .f32 :=
  Host.divf e (broadcastInDim S1x12x32x2048 ![0, 1, 2, 3] bcast_S1x12x1x2048_S1x12x32x2048_0_1_2_3
    (broadcastInDim S1x12x1x2048 ![0, 1, 3] bcast_S1x12x2048_S1x12x1x2048_0_1_3
      (Host.reduceAdd e (constant S_ .f32 0x00000000#32) reducesTo_S1x12x32x2048_S1x12x2048_d2 h_S_)))

/-- Every head's weighted sum of the values. -/
def mixed (p : FVec Ideal S1x12x32x2048 .f32) (V : FVec Ideal S1x12x2048x64 .f32) : FVec Ideal S1x12x2048x64 .f32 :=
  Host.reduceAdd (select (broadcastInDim S1x12x32x2048x64 ![0, 1, 2, 3, 4] bcast_S1x1x32x2048x1_S1x12x32x2048x64_0_1_2_3_4
        (broadcastInDim S1x1x32x2048x1 ![2, 3] bcast_S32x2048_S1x1x32x2048x1_2_3 inside))
      (mulf (broadcastInDim S1x12x32x2048x64 ![0, 1, 2, 3, 4] bcast_S1x12x32x2048x1_S1x12x32x2048x64_0_1_2_3_4
          (broadcastInDim S1x12x32x2048x1 ![0, 1, 2, 3] bcast_S1x12x32x2048_S1x12x32x2048x1_0_1_2_3 p)) (spread V))
      (broadcastInDim S1x12x32x2048x64 ![0, 1, 2, 3, 4] bcast_S1x12x32x2048x1_S1x12x32x2048x64_0_1_2_3_4
        (broadcastInDim S1x12x32x2048x1 ![0, 1, 2, 3] bcast_S1x12x32x2048_S1x12x32x2048x1_0_1_2_3 p)))
    (constant S_ .f32 0x00000000#32) reducesTo_S1x12x32x2048x64_S1x12x2048x64_d2 h_S_

/-- The heads side by side, times the output weights. -/
def merged (M : FVec Ideal S1x12x2048x64 .f32) (w : FVec Ideal S768x768 .f32) : FVec Ideal S1x2048x768 .f32 :=
  Host.dotGeneral dot_S1x2048x768_S768x768_S1x2048x768_2_0_01_1_n_n none
    (shapeCast S1x2048x768 (transpose S1x2048x12x64 [0, 2, 1, 3] M transposes_S1x12x2048x64_S1x2048x12x64_0_2_1_3)
      shapeCasts_S1x2048x12x64_S1x2048x768) w

/-- The reference's result is these stages in turn. -/
theorem res_eq (m : (ℓ : Loc nD τ sig) → Buf (Elt Ideal) ℓ) (c : Dev nD) :
    Value.res_main_v64 m c
      = merged (mixed (probs (exps (table (proj (m ((c.tc : Thread nD τ).loc main_arg0)) (m ((c.tc : Thread nD τ).loc main_arg3)))
            (proj (m ((c.tc : Thread nD τ).loc main_arg1)) (m ((c.tc : Thread nD τ).loc main_arg4))))))
          (proj (m ((c.tc : Thread nD τ).loc main_arg2)) (m ((c.tc : Thread nD τ).loc main_arg5))))
          (m ((c.tc : Thread nD τ).loc main_arg6)) := rfl

/-- The position's word: `r + c - 31`, wrapped round where that is negative. -/
theorem position_word (r : Fin 32) (c : Fin 2048) :
    (IntOp.addi (IntOp.subi (BitVec.ofNat 32 r.val) 31#32) (IntOp.muli 1#32 (BitVec.ofNat 32 c.val))).toNat = if 31 ≤ r.val + c.val then r.val + c.val - 31 else 2 ^ 32 + (r.val + c.val) - 31 := by
  simp only [IntOp.addi, IntOp.subi, IntOp.muli, BitVec.toNat_add, BitVec.toNat_sub, BitVec.toNat_mul, BitVec.toNat_ofNat]
  split <;> omega

/-- Clipping such a word to the keys there are. -/
theorem clip_word (x : BitVec 32) (n : Nat) (hn : n < 2079) (h : x.toNat = if 31 ≤ n then n - 31 else 2 ^ 32 + n - 31) :
    IntOp.minsi 2047#32 (IntOp.maxsi 0#32 x) = BitVec.ofNat 32 (n - 31) := by
  have e := WordArith.toNat_maxsi_zero x
  rw [BitVec.toInt_eq_toNat_cond] at e
  have e' : (IntOp.maxsi 0#32 x).toNat = n - 31 := by
    rw [e]; split at h <;> split <;> omega
  have l : IntOp.maxsi 0#32 x = BitVec.ofNat 32 (n - 31) := BitVec.eq_of_toNat_eq (by rw [e', BitVec.toNat_ofNat]; omega)
  rw [l]
  unfold IntOp.minsi
  rw [BitVec.slt_eq_decide]
  split
  · next h' =>
    have this : (2047 : Int) < (BitVec.ofNat 32 (n - 31)).toInt := of_decide_eq_true h'
    rw [BitVec.toInt_eq_toNat_of_lt (by rw [BitVec.toNat_ofNat]; omega), BitVec.toNat_ofNat] at this
    omega
  · rfl

/-- The gather at an index: the operand at the row that the start index names. -/
theorem gather_apply (X : FVec Ideal S1x12x2048x64 .f32) (idx : IVec S32x2048x1 32) (h : Fin 12) (r : Fin 32) (c : Fin 2048) (d : Fin 64) (g : Fin 2048)
    (hg : idx (ix3 r c 0) = BitVec.ofNat 32 g.val) :
    Host.gather gather_S1x12x2048x64_S32x2048x1_S1x12x32x2048x64_014_2_n_n_2_2_112164 X idx (ix5 0 h r c d) = X (ix4 0 h g d) := by
  have E : ∀ (x y : Fin 5), x = y → (ix5 (0 : Fin 1) h r c d x).val = (ix5 (0 : Fin 1) h r c d y).val := fun x y e => by subst e; rfl
  unfold Host.gather
  refine congrArg X (funext fun a => Fin.ext ?_)
  match a with
  | ⟨0, _⟩ => rfl
  | ⟨1, _⟩ =>
    refine (Nat.zero_add _).trans ?_
    unfold GatherDims.offCoord
    refine (dif_pos (show (1 : Fin 4) ∈ gather_S1x12x2048x64_S32x2048x1_S1x12x32x2048x64_014_2_n_n_2_2_112164.sKept by decide)).trans ?_
    exact E _ 1 (by decide +revert)
  | ⟨3, _⟩ =>
    refine (Nat.zero_add _).trans ?_
    unfold GatherDims.offCoord
    refine (dif_pos (show (3 : Fin 4) ∈ gather_S1x12x2048x64_S32x2048x1_S1x12x32x2048x64_014_2_n_n_2_2_112164.sKept by decide)).trans ?_
    exact E _ 4 (by decide +revert)
  | ⟨2, _⟩ =>
    show GatherDims.start gather_S1x12x2048x64_S32x2048x1_S1x12x32x2048x64_014_2_n_n_2_2_112164 (ix5 0 h r c d) idx (2 : Fin 4) + 0 + 0 = _
    unfold GatherDims.start
    rw [dif_pos (by decide)]
    have e : GatherDims.siIdx gather_S1x12x2048x64_S32x2048x1_S1x12x32x2048x64_014_2_n_n_2_2_112164 (ix5 0 h r c d) ⟨0, by decide⟩ = ix3 r c 0 := by
      funext b
      apply Fin.ext
      match b with
      | ⟨0, _⟩ =>
        unfold GatherDims.siIdx
        refine (congrArg Fin.val (dif_neg (show ¬ (0 = 2) by decide))).trans ?_
        exact E _ 2 (by decide +revert)
      | ⟨1, _⟩ =>
        unfold GatherDims.siIdx
        refine (congrArg Fin.val (dif_neg (show ¬ (1 = 2) by decide))).trans ?_
        exact E _ 3 (by decide +revert)
      | ⟨2, _⟩ => rfl
    refine (congrArg (fun w => min (BitVec.toInt w).toNat 2047) ((congrArg idx e).trans hg)).trans ?_
    rw [BitVec.toInt_eq_toNat_of_lt (by rw [BitVec.toNat_ofNat]; omega), BitVec.toNat_ofNat]
    show min _ _ = g.val
    omega
/-- The position at span row `r` of query `c`. -/
theorem position_apply (r : Fin 32) (c : Fin 2048) :
    (position (ix2 r c)).toNat = if 31 ≤ r.val + c.val then r.val + c.val - 31 else 2 ^ 32 + (r.val + c.val) - 31 := by
  unfold position
  pointwise
  exact position_word r c

theorem inside_apply (r : Fin 32) (c : Fin 2048) : inside (ix2 r c) = BitVec.ofBool (decide (31 ≤ r.val + c.val)) := by
  have h := position_apply r c
  unfold inside
  pointwise
  rw [WordCmp.andi_sge_zero_slt_ofNat (by decide), h]
  congr 1
  refine decide_eq_decide.mpr ?_
  split <;> omega

theorem clipped_apply (r : Fin 32) (c : Fin 2048) : clipped (ix2 r c) = BitVec.ofNat 32 (r.val + c.val - 31) := by
  have h := position_apply r c
  unfold clipped
  pointwise
  exact clip_word _ _ (by omega) h

theorem starts_apply (r : Fin 32) (c : Fin 2048) : starts (ix3 r c 0) = BitVec.ofNat 32 (r.val + c.val - 31) := by
  have h := clipped_apply r c
  unfold starts
  pointwise
  rw [h, WordCmp.cmpi_slt_ofNat (by omega) (by decide)]
  rfl

theorem proj_apply (x : FVec Ideal S1x2048x768 .f32) (w : FVec Ideal S768x768 .f32) (h : Fin 12) (g : Fin 2048) (d : Fin 64) :
    proj x w (ix4 0 h g d) = ∑ k : Fin 768, x (ix3 0 g k) * w (ix2 k ⟨h.val * 64 + d.val, by omega⟩) := by
  unfold proj
  pointwise

theorem spread_apply (X : FVec Ideal S1x12x2048x64 .f32) (h : Fin 12) (r : Fin 32) (c : Fin 2048) (d : Fin 64) :
    spread X (ix5 0 h r c d) = X (ix4 0 h ⟨r.val + c.val - 31, by omega⟩ d) :=
  gather_apply X starts h r c d ⟨r.val + c.val - 31, by omega⟩ (starts_apply r c)

/-- A selection by a decided bit is an `if`. -/
theorem select_ofBool {α : Type} (p : Prop) [Decidable p] (x y : α) :
    Scalar.select (BitVec.ofBool (decide p)) x y = if p then x else y := by
  by_cases h : p <;> simp [h, Scalar.select]

theorem eight : Ideal.ofBits .f32 0x41000000#32 = 8 := by
  simp [Ideal.ofBits, Ideal.ieee]
  rw [← EReal.coe_mul]
  norm_num
  rfl

theorem bot : Ideal.ofBits .f32 0xFF800000#32 = ⊥ := by simp [Ideal.ofBits, Ideal.ieee]

theorem table_apply (Q K : FVec Ideal S1x12x2048x64 .f32) (h : Fin 12) (r : Fin 32) (c : Fin 2048) :
    table Q K (ix4 0 h r c) = if 31 ≤ r.val + c.val then
      Ideal.div (∑ d : Fin 64, Q (ix4 0 h c d) * K (ix4 0 h ⟨r.val + c.val - 31, by omega⟩ d)) 8 else ⊥ := by
  unfold table
  pointwise
  rw [inside_apply, select_ofBool, eight]
  simp only [spread_apply]
  rw [← bot]
  rfl

theorem top_apply (T : FVec Ideal S1x12x32x2048 .f32) (h : Fin 12) (c : Fin 2048) :
    top T (ix3 0 h c) = Finset.fold max ⊥ (fun x : Fin 32 => T (ix4 0 h x c)) Finset.univ := by
  unfold top
  pointwise
  rw [bot]
  exact max_eq_right bot_le

theorem exps_apply (T : FVec Ideal S1x12x32x2048 .f32) (h : Fin 12) (r : Fin 32) (c : Fin 2048) :
    exps T (ix4 0 h r c) = Ideal.exp (T (ix4 0 h r c) - top T (ix3 0 h c)) := by
  unfold exps
  pointwise

theorem probs_apply (e : FVec Ideal S1x12x32x2048 .f32) (h : Fin 12) (r : Fin 32) (c : Fin 2048) :
    probs e (ix4 0 h r c) = Ideal.div (e (ix4 0 h r c)) (∑ x, e (ix4 0 h x c)) := by
  unfold probs
  pointwise

theorem mixed_apply (p : FVec Ideal S1x12x32x2048 .f32) (V : FVec Ideal S1x12x2048x64 .f32) (h : Fin 12) (c : Fin 2048) (d : Fin 64) :
    mixed p V (ix4 0 h c d) = ∑ r : Fin 32, if 31 ≤ r.val + c.val then
      p (ix4 0 h r c) * V (ix4 0 h ⟨r.val + c.val - 31, by omega⟩ d) else p (ix4 0 h r c) := by
  unfold mixed
  pointwise
  simp only [inside_apply, select_ofBool, spread_apply]

theorem merged_apply (M : FVec Ideal S1x12x2048x64 .f32) (w : FVec Ideal S768x768 .f32) (c : Fin 2048) (j : Fin 768) :
    merged M w (ix3 0 c j)
      = ∑ x : Fin 768, M (ix4 0 ⟨x.val / 64, by omega⟩ c ⟨x.val % 64, by omega⟩) * w (ix2 x j) := by
  unfold merged
  pointwise

end Cert.ReferenceIdeal.Stages

end
-- ==== Proof.Attention.lean ====
/- The mathematics the kernel rests on: a softmax over a span, computed in powers of two over a wider window whose other entries
   are masked by minus infinity, and normalised after the weighted sum rather than before it. -/
module

public import Idealize.ShloMosaic.PureOps.Ideal
public import Idealize.ShloMosaic.PureOps.Ideal.Laws

@[expose] public section

noncomputable section

namespace Cert.Attention

open Idealize.ShloMosaic

/-- A sum of reals, read as extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A non-negative real factor goes into a sum of any extended reals. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The running maximum from minus infinity is the supremum. -/
theorem fold_max_eq_sup {ι : Type} (s : Finset ι) (f : ι → EReal) : Finset.fold max ⊥ f s = s.sup f := rfl

/-- Two to the power of `x / ln 2` is the exponential of `x`. -/
theorem exp2_scaled (x y : ℝ) :
    Ideal.exp2 ((((Real.log 2)⁻¹ * x : ℝ) : EReal) - (((Real.log 2)⁻¹ * y : ℝ) : EReal)) = ((Real.exp (x - y) : ℝ) : EReal) := by
  have h2 : Real.log 2 ≠ 0 := (Real.log_pos (by norm_num)).ne'
  rw [← EReal.coe_sub, Ideal.exp2_coe]
  congr 1
  rw [Real.rpow_eq_pow, Real.rpow_def_of_pos (by norm_num)]
  congr 1
  field_simp

section Span

variable {ι κ : Type} [Fintype ι] [Fintype κ] (e : κ → ι) (A : κ → Prop) [DecidablePred A]
  (L : κ → ℝ) (S : ι → EReal)

/-- The scores of a span, minus infinity where there is no key. -/
def masked (i : κ) : EReal := if A i then (L i : EReal) else ⊥

/-- The greatest score is a real, and the window's greatest is that real over `ln 2`. -/
theorem greatest (hA : ∃ i, A i) (hin : ∀ i, A i → S (e i) = (((Real.log 2)⁻¹ * L i : ℝ) : EReal))
    (hout : ∀ n, (∀ i, A i → e i ≠ n) → S n = ⊥) :
    ∃ M : ℝ, Finset.univ.sup (masked A L) = (M : EReal) ∧ Finset.univ.sup S = (((Real.log 2)⁻¹ * M : ℝ) : EReal) := by
  have hc : 0 ≤ (Real.log 2)⁻¹ := inv_nonneg.mpr (Real.log_nonneg (by norm_num))
  obtain ⟨i₀, h₀, hm⟩ := Finset.exists_max_image (Finset.univ.filter A) L (by obtain ⟨i, hi⟩ := hA; exact ⟨i, by simp [hi]⟩)
  have hA₀ : A i₀ := by simpa using h₀
  refine ⟨L i₀, le_antisymm (Finset.sup_le fun i _ => ?_) ?_, le_antisymm (Finset.sup_le fun n _ => ?_) ?_⟩
  · unfold masked
    split
    · next h => exact EReal.coe_le_coe_iff.mpr (hm i (by simp [h]))
    · exact bot_le
  · exact le_trans (by simp [masked, hA₀]) (Finset.le_sup (f := masked A L) (Finset.mem_univ i₀))
  · by_cases h : ∀ i, A i → e i ≠ n
    · rw [hout n h]; exact bot_le
    · push Not at h
      obtain ⟨i, hi, rfl⟩ := h
      rw [hin i hi]
      exact EReal.coe_le_coe_iff.mpr (mul_le_mul_of_nonneg_left (hm i (by simp [hi])) hc)
  · rw [← hin i₀ hA₀]
    exact Finset.le_sup (Finset.mem_univ _)

/-- A sum over the window of what vanishes off the span is the sum over the span. -/
theorem sum_window (F : ι → EReal) (he : Function.Injective e) (hF : ∀ n, (∀ i, A i → e i ≠ n) → F n = 0) :
    ∑ n, F n = ∑ i, if A i then F (e i) else 0 := by
  classical
  rw [← Finset.sum_filter, ← Finset.sum_image (s := Finset.univ.filter A) (g := e) (f := F) (fun a _ b _ h => he h)]
  refine (Finset.sum_subset (Finset.subset_univ _) fun n _ hn => hF n fun i hi h => hn ?_).symm
  exact Finset.mem_image.mpr ⟨i, by simp [hi], h⟩

/-- The window's weighted sum over the window's total is the span's softmax-weighted sum. -/
theorem attend (he : Function.Injective e) (hA : ∃ i, A i) (hin : ∀ i, A i → S (e i) = (((Real.log 2)⁻¹ * L i : ℝ) : EReal))
    (hout : ∀ n, (∀ i, A i → e i ≠ n) → S n = ⊥) (W : ι → EReal) (v : κ → EReal) (hW : ∀ i, A i → W (e i) = v i) :
    (∑ n, Ideal.exp2 (S n - Finset.fold max ⊥ S Finset.univ) * W n) * Ideal.div 1 (∑ n, Ideal.exp2 (S n - Finset.fold max ⊥ S Finset.univ))
      = ∑ i, if A i then
          Ideal.div (Ideal.exp (masked A L i - Finset.fold max ⊥ (masked A L) Finset.univ))
            (∑ k, Ideal.exp (masked A L k - Finset.fold max ⊥ (masked A L) Finset.univ)) * v i
        else Ideal.div (Ideal.exp (masked A L i - Finset.fold max ⊥ (masked A L) Finset.univ))
            (∑ k, Ideal.exp (masked A L k - Finset.fold max ⊥ (masked A L) Finset.univ)) := by
  obtain ⟨M, hM, hM'⟩ := greatest e A L S hA hin hout
  simp only [fold_max_eq_sup, hM, hM']
  have hp : ∀ i, A i → Ideal.exp2 (S (e i) - (((Real.log 2)⁻¹ * M : ℝ) : EReal)) = ((Real.exp (L i - M) : ℝ) : EReal) :=
    fun i hi => by rw [hin i hi, exp2_scaled]
  have hp0 : ∀ n, (∀ i, A i → e i ≠ n) → Ideal.exp2 (S n - (((Real.log 2)⁻¹ * M : ℝ) : EReal)) = 0 :=
    fun n hn => by rw [hout n hn, EReal.bot_sub, Ideal.exp2_bot]
  have hq : ∀ i, Ideal.exp (masked A L i - (M : EReal)) = if A i then ((Real.exp (L i - M) : ℝ) : EReal) else 0 := by
    intro i
    unfold masked
    split
    · rw [← EReal.coe_sub, Ideal.exp_coe]
    · rw [EReal.bot_sub, Ideal.exp_bot]
  have hl : ∑ i, (if A i then ((Real.exp (L i - M) : ℝ) : EReal) else 0) = ((∑ i, (if A i then Real.exp (L i - M) else 0) : ℝ) : EReal) := by
    rw [← coe_sum]
    exact Finset.sum_congr rfl fun i _ => by split <;> simp
  have hpos : 0 < ∑ i, (if A i then Real.exp (L i - M) else 0) := by
    obtain ⟨i, hi⟩ := hA
    refine Finset.sum_pos' (fun i _ => by split; exact (Real.exp_pos _).le; exact le_rfl) ⟨i, Finset.mem_univ _, by rw [if_pos hi]; exact Real.exp_pos _⟩
  rw [sum_window e A _ he fun n hn => by rw [hp0 n hn, zero_mul], sum_window e A _ he hp0]
  simp only [hq]
  rw [show (∑ i, if A i then Ideal.exp2 (S (e i) - (((Real.log 2)⁻¹ * M : ℝ) : EReal)) else 0)
    = ∑ i, (if A i then ((Real.exp (L i - M) : ℝ) : EReal) else 0) from Finset.sum_congr rfl fun i _ => by
      split
      · next h => exact hp i h
      · rfl, hl]
  generalize ∑ i, (if A i then Real.exp (L i - M) else 0) = l at hpos
  rw [Ideal.div_coe hpos.ne', one_mul, sum_mul_coe _ _ _ (by positivity)]
  refine Finset.sum_congr rfl fun i _ => ?_
  rw [Ideal.div_coe hpos.ne']
  split
  · next h => rw [hp i h, hW i h, mul_right_comm]
  · rw [zero_mul]

end Span

end Cert.Attention

end
-- ==== Proof.Equation.lean ====
/- One head of one row: what the kernel computes in its window is what the reference computes over the span. -/
module

public import proofs.«01_k».proof.Proof.Head
public import proofs.«01_k».proof.Proof.Scratch
public import proofs.«01_k».proof.Proof.Reference
public import proofs.«01_k».proof.Proof.Attention

@[expose] public section

set_option maxRecDepth 16384

noncomputable section

namespace Cert.Equation

open Idealize.ShloMosaic Idealize.SL.Sem
open Cert.KernelIdeal Cert.KernelIdeal.Gen Cert.KernelIdeal.Tile Cert.KernelIdeal.Head Cert.KernelIdeal.Scratch
open Cert.ReferenceIdeal.Stages Cert.Attention

/-- The projected queries of a block, at an index. -/
theorem pay11_apply (x : FVec Ideal S1x256x768 .f32) (w : FVec Ideal S768x768 .bf16) (a : Fin 256) (b : Fin 768) :
    (k0_pay11 (F := Ideal) x w (ix2 a b) : EReal) = ∑ k : Fin 768, x (ix3 0 a k) * w (ix2 k b) := by
  unfold k0_pay11
  pointwise

/-- A padded projection below its zero rows. -/
theorem padded_below (x : FVec Ideal S1x2048x768 .f32) (w : FVec Ideal S768x768 .bf16) (n : Fin 2080) (j : Fin 768) (hn : 32 ≤ n.val)
    (g : Fin 2048) (hg : n.val - 32 = g.val) : padded x w (ix2 n j) = ∑ k : Fin 768, x (ix3 0 g k) * w (ix2 k j) := by
  exact (if_neg (by show ¬ n.val < 32; omega)).trans
    (Finset.sum_congr rfl fun k _ => congrArg (fun u => x (ix3 0 u k) * w (ix2 k j)) (Fin.ext hg))

/-- A projection of reals, as a real. -/
def projR (x : S1x2048x768.Idx → ℝ) (w : S768x768.Idx → ℝ) (g : Fin 2048) (b : Fin 768) : ℝ :=
  ∑ k : Fin 768, x (ix3 0 g k) * w (ix2 k b)

/-- Column `d` of head `h`. -/
abbrev col (h : Fin 12) (d : Fin 64) : Fin 768 := ⟨64 * h.val + d.val, by omega⟩

/-- The score of query `g` with the key of span row `r`, in head `h`. -/
def score (q k : S1x2048x768.Idx → ℝ) (wq wk : S768x768.Idx → ℝ) (h : Fin 12) (g : Fin 2048) (r : Fin 32) : ℝ :=
  (∑ d : Fin 64, projR q wq g (col h d) * projR k wk ⟨r.val + g.val - 31, by omega⟩ (col h d)) / 8

variable (x0 x1 x2 : FVec Ideal S1x2048x768 .f32) (w3 w4 w5 w6 : FVec Ideal S768x768 .f32)
variable (q k : S1x2048x768.Idx → ℝ) (wq wk : S768x768.Idx → ℝ)

/-- The reference's projection of reals. -/
theorem proj_real (h1 : ∀ i, x1 i = (k i : EReal)) (h4 : ∀ i, w4 i = (wk i : EReal)) (h : Fin 12) (g : Fin 2048) (d : Fin 64) :
    proj x1 w4 (ix4 0 h g d) = ((projR k wk g (col h d) : ℝ) : EReal) := by
  rw [proj_apply]
  unfold projR
  rw [← coe_sum]
  refine Finset.sum_congr rfl fun j _ => ?_
  have e : (⟨h.val * 64 + d.val, by omega⟩ : Fin 768) = col h d := Fin.ext (by show h.val * 64 + d.val = 64 * h.val + d.val; omega)
  rw [e, h1, h4, EReal.coe_mul]

/-- The reference's table of scores. -/
theorem table_real (h0 : ∀ i, x0 i = (q i : EReal)) (h1 : ∀ i, x1 i = (k i : EReal)) (h3 : ∀ i, w3 i = (wq i : EReal))
    (h4 : ∀ i, w4 i = (wk i : EReal)) (h : Fin 12) (g : Fin 2048) (r : Fin 32) :
    table (proj x0 w3) (proj x1 w4) (ix4 0 h r g) = masked (fun i : Fin 32 => 31 ≤ i.val + g.val) (score q k wq wk h g) r := by
  rw [table_apply]
  unfold masked score
  refine if_congr Iff.rfl ?_ rfl
  simp only [proj_real x0 w3 q wq h0 h3, proj_real x1 w4 k wk h1 h4, ← EReal.coe_mul]
  rw [coe_sum, show (8 : EReal) = ((8 : ℝ) : EReal) from rfl, Ideal.div_coe (by norm_num), ← EReal.coe_mul, mul_one_div]

/-- The kernel's scores inside the span are the reference's over `ln 2`. -/
theorem scores_real (h0 : ∀ i, x0 i = (q i : EReal)) (h1 : ∀ i, x1 i = (k i : EReal)) (h3 : ∀ i, w3 i = (wq i : EReal))
    (h4 : ∀ i, w4 i = (wk i : EReal)) (t : Fin 9) (X : FVec Ideal S1x256x768 .f32)
    (hX : ∀ (a : Fin 256) (j : Fin 768), X (ix3 0 a j) = x0 (ix3 0 ⟨256 * (t.val - 1) + a.val, by omega⟩ j))
    (K : FVec Ideal S288x768 .bf16)
    (hK : ∀ (n : Fin 288) (j : Fin 768), K (ix2 n j) = padded x1 (k0_pay6 (F := Ideal) w4) (ix2 (⟨256 * (t.val - 1) + n.val, by omega⟩ : Fin 2080) j))
    (h : Fin 12) (a : Fin 256) (r : Fin 32) (hr : 31 ≤ r.val + (256 * (t.val - 1) + a.val)) :
    scores (k0_pay11 (F := Ideal) X (k0_pay5 (F := Ideal) w3)) K (k0_pay13 (BitVec.ofNat 32 (t.val - 1))) h (ix2 a (⟨a.val + 1 + r.val, by omega⟩ : Fin 288))
      = (((Real.log 2)⁻¹ * score q k wq wk h ⟨256 * (t.val - 1) + a.val, by omega⟩ r : ℝ) : EReal) := by
  have hQ : ∀ b : Fin 768, k0_pay11 (F := Ideal) X (k0_pay5 (F := Ideal) w3) (ix2 a b)
      = ((projR q wq ⟨256 * (t.val - 1) + a.val, by omega⟩ b * (8 * Real.log 2)⁻¹ : ℝ) : EReal) := by
    intro b
    rw [pay11_apply]
    unfold projR
    rw [Finset.sum_mul, ← coe_sum]
    refine Finset.sum_congr rfl fun j _ => ?_
    rw [hX, pay5_apply, h0, h3, EReal.coe_mul, EReal.coe_mul, mul_assoc]
  have hKr : ∀ b : Fin 768, K (ix2 (⟨a.val + 1 + r.val, by omega⟩ : Fin 288) b)
      = ((projR k wk ⟨r.val + (256 * (t.val - 1) + a.val) - 31, by omega⟩ b : ℝ) : EReal) := by
    intro b
    rw [hK, padded_below x1 _ _ b (by show 32 ≤ 256 * (t.val - 1) + (a.val + 1 + r.val); omega)
      ⟨r.val + (256 * (t.val - 1) + a.val) - 31, by omega⟩ (by show 256 * (t.val - 1) + (a.val + 1 + r.val) - 32 = r.val + (256 * (t.val - 1) + a.val) - 31; omega)]
    unfold projR
    rw [← coe_sum]
    refine Finset.sum_congr rfl fun j _ => ?_
    rw [pay6_apply, h1, h4, EReal.coe_mul]
  rw [scores_apply, mask_apply, if_pos (by refine ⟨?_, ?_, ?_⟩ <;> show _ ≤ _ <;> simp only [] <;> omega), add_zero]
  simp only [hQ, hKr, ← EReal.coe_mul]
  rw [coe_sum]
  congr 1
  unfold score
  rw [mul_div_assoc', Finset.mul_sum, Finset.sum_div]
  refine Finset.sum_congr rfl fun d _ => ?_
  rw [mul_inv]
  ring

/-- One head of one row, in the kernel and in the reference. -/
theorem head_eq (h0 : ∀ i, x0 i = (q i : EReal)) (h1 : ∀ i, x1 i = (k i : EReal)) (h3 : ∀ i, w3 i = (wq i : EReal))
    (h4 : ∀ i, w4 i = (wk i : EReal)) (t : Fin 9) (X : FVec Ideal S1x256x768 .f32)
    (hX : ∀ (a : Fin 256) (j : Fin 768), X (ix3 0 a j) = x0 (ix3 0 ⟨256 * (t.val - 1) + a.val, by omega⟩ j))
    (K V : FVec Ideal S288x768 .bf16)
    (hK : ∀ (n : Fin 288) (j : Fin 768), K (ix2 n j) = padded x1 (k0_pay6 (F := Ideal) w4) (ix2 (⟨256 * (t.val - 1) + n.val, by omega⟩ : Fin 2080) j))
    (hV : ∀ (n : Fin 288) (j : Fin 768), V (ix2 n j) = padded x2 (k0_pay7 (F := Ideal) w5) (ix2 (⟨256 * (t.val - 1) + n.val, by omega⟩ : Fin 2080) j))
    (h : Fin 12) (a : Fin 256) (d : Fin 64) :
    head (k0_pay11 (F := Ideal) X (k0_pay5 (F := Ideal) w3)) K V (k0_pay13 (BitVec.ofNat 32 (t.val - 1))) h (ix2 a d)
      = mixed (probs (exps (table (proj x0 w3) (proj x1 w4)))) (proj x2 w5) (ix4 0 h ⟨256 * (t.val - 1) + a.val, by omega⟩ d) := by
  have hT := table_real x0 x1 w3 w4 q k wq wk h0 h1 h3 h4 h ⟨256 * (t.val - 1) + a.val, by omega⟩
  rw [mixed_apply]
  simp only [probs_apply, exps_apply, top_apply, hT]
  unfold head
  rw [weighted_apply]
  simp only [powers_apply, bot16]
  refine attend (fun r : Fin 32 => (⟨a.val + 1 + r.val, by omega⟩ : Fin 288)) (fun i : Fin 32 => 31 ≤ i.val + (256 * (t.val - 1) + a.val))
    (score q k wq wk h ⟨256 * (t.val - 1) + a.val, by omega⟩)
    (fun n => scores (k0_pay11 (F := Ideal) X (k0_pay5 (F := Ideal) w3)) K (k0_pay13 (BitVec.ofNat 32 (t.val - 1))) h (ix2 a n))
    (fun r r' e => Fin.ext (by have := congrArg Fin.val e; simp only [] at this; omega)) ⟨31, by show 31 ≤ 31 + _; omega⟩
    (fun r hr => scores_real x0 x1 w3 w4 q k wq wk h0 h1 h3 h4 t X hX K hK h a r hr) (fun n hn => ?_)
    (fun n => V (ix2 n (col h d)))
    (fun r => proj x2 w5 (ix4 0 h ⟨r.val + (256 * (t.val - 1) + a.val) - 31, by omega⟩ d)) (fun r hr => ?_)
  · show scores _ _ _ _ _ = _
    rw [scores_apply, mask_apply, if_neg, EReal.add_bot]
    rintro ⟨n1, n2, n3⟩
    exact hn ⟨n.val - a.val - 1, by omega⟩ (by show 31 ≤ n.val - a.val - 1 + _; omega) (Fin.ext (by show _ + _ + (n.val - a.val - 1) = _; omega))
  · have hr' : 31 ≤ r.val + (256 * (t.val - 1) + a.val) := hr
    show V _ = _
    rw [hV, proj_apply, padded_below x2 _ _ (col h d) (by show 32 ≤ 256 * (t.val - 1) + (a.val + 1 + r.val); omega)
      ⟨r.val + (256 * (t.val - 1) + a.val) - 31, by omega⟩ (by show 256 * (t.val - 1) + (a.val + 1 + r.val) - 32 = r.val + (256 * (t.val - 1) + a.val) - 31; omega)]
    have e' : (⟨h.val * 64 + d.val, by omega⟩ : Fin 768) = col h d := Fin.ext (by show h.val * 64 + d.val = 64 * h.val + d.val; omega)
    rw [e']
    exact Finset.sum_congr rfl fun j _ => by rw [pay7_apply]

/-- One row of the result, in the kernel's tile and in the reference. -/
theorem tile_apply (h0 : ∀ i, x0 i = (q i : EReal)) (h1 : ∀ i, x1 i = (k i : EReal)) (h3 : ∀ i, w3 i = (wq i : EReal))
    (h4 : ∀ i, w4 i = (wk i : EReal)) (t : Fin 9) (X : FVec Ideal S1x256x768 .f32)
    (hX : ∀ (a : Fin 256) (j : Fin 768), X (ix3 0 a j) = x0 (ix3 0 ⟨256 * (t.val - 1) + a.val, by omega⟩ j))
    (K V : FVec Ideal S288x768 .bf16)
    (hK : ∀ (n : Fin 288) (j : Fin 768), K (ix2 n j) = padded x1 (k0_pay6 (F := Ideal) w4) (ix2 (⟨256 * (t.val - 1) + n.val, by omega⟩ : Fin 2080) j))
    (hV : ∀ (n : Fin 288) (j : Fin 768), V (ix2 n j) = padded x2 (k0_pay7 (F := Ideal) w5) (ix2 (⟨256 * (t.val - 1) + n.val, by omega⟩ : Fin 2080) j))
    (a : Fin 256) (j : Fin 768) :
    tile (BitVec.ofNat 32 (t.val - 1)) X (k0_pay5 (F := Ideal) w3) K V (k0_pay8 (F := Ideal) w6) (ix3 0 a j)
      = merged (mixed (probs (exps (table (proj x0 w3) (proj x1 w4)))) (proj x2 w5)) w6 (ix3 0 ⟨256 * (t.val - 1) + a.val, by omega⟩ j) := by
  rw [tile_eq, joined_apply, merged_apply]
  refine Finset.sum_congr rfl fun x _ => ?_
  rw [head_eq x0 x1 x2 w3 w4 w5 q k wq wk h0 h1 h3 h4 t X hX K V hK hV, pay8_apply]

end Cert.Equation

end
-- ==== Proof.Finite.lean ====
/- The precondition read back: the queries, the keys and their two weights are reals. -/
module

public import proofs.«01_k».proof.Defs
public import Idealize.ShloMosaic.Lib.ReduceAll

@[expose] public section

set_option maxRecDepth 16384

noncomputable section

namespace Cert.Finite

open Idealize.ShloMosaic Cert.Pre_finite_scores

/-- The predicate's shape relations. -/
theorem facts : Cert.Pre_finite_scores.Facts where
  bcast_S_S1x2048x768 := by decide
  reducesTo_S1x2048x768_S_d0_1_2 := by decide
  h_S_ := by decide
  bcast_S_S768x768 := by decide
  reducesTo_S768x768_S_d0_1 := by decide

/-- The bit pattern the predicate compares with is `+∞`. -/
theorem top32 : Ideal.ofBits .f32 0x7F800000#32 = (⊤ : EReal) := by
  simp [Ideal.ofBits, Ideal.ieee]

/-- An extended real whose absolute value compares below `+∞` is a real. -/
theorem real_of_bit {s : Shape} (x y : FVec Ideal s .f32) (i : s.Idx) (hy : y i = (⊤ : EReal)) (h : cmpf .olt (Host.absf x) y i = 1#1) :
    x i = (((x i : EReal).toReal : ℝ) : EReal) := by
  have h1 : BitVec.ofBool (decide (Host.absf x i < y i)) = 1#1 := h
  rw [hy] at h1
  have h2 : ((max (x i : EReal) (-(x i : EReal)) : EReal) < ⊤) := by
    by_contra h3
    rw [show decide (Host.absf x i < (⊤ : EReal)) = false from decide_eq_false h3] at h1
    exact absurd h1 (by decide)
  refine (EReal.coe_toReal ?_ ?_).symm
  · intro e; rw [e] at h2; simp at h2
  · intro e; rw [e] at h2; simp at h2

/-- What the predicate says of the four arrays it reads. -/
theorem of_pre [Cert.Pre_finite_scores.Facts] (x0 x1 x2 : FVec Ideal S1x2048x768 .f32) (w3 w4 w5 w6 : FVec Ideal S768x768 .f32)
    (h : fn (F := Ideal) x0 x1 x2 w3 w4 w5 w6 = fun _ => 1#1) :
    (∀ i, x0 i = (((x0 i : EReal).toReal : ℝ) : EReal)) ∧ (∀ i, x1 i = (((x1 i : EReal).toReal : ℝ) : EReal))
      ∧ (∀ i, w3 i = (((w3 i : EReal).toReal : ℝ) : EReal)) ∧ (∀ i, w4 i = (((w4 i : EReal).toReal : ℝ) : EReal)) := by
  haveI : Subsingleton S_.Idx := ⟨fun a b => funext fun d => d.elim0⟩
  have e := congrFun h (Shape.Idx.first Facts.h_S_)
  dsimp only [fn, fn_part1] at e
  obtain ⟨e, e4⟩ := IntOp.andi_eq_one.1 e
  obtain ⟨e, e3⟩ := IntOp.andi_eq_one.1 e
  obtain ⟨e0, e1⟩ := IntOp.andi_eq_one.1 e
  exact ⟨fun i => real_of_bit _ _ i top32 (Host.reduce_andi_all _ _ _ _ _ e0 i), fun i => real_of_bit _ _ i top32 (Host.reduce_andi_all _ _ _ _ _ e1 i),
    fun i => real_of_bit _ _ i top32 (Host.reduce_andi_all _ _ _ _ _ e3 i), fun i => real_of_bit _ _ i top32 (Host.reduce_andi_all _ _ _ _ _ e4 i)⟩

end Cert.Finite

end
-- ==== Proof.Result.lean ====
/- The result array the kernel leaves is the reference's result. -/
module

public import proofs.«01_k».proof.Proof.Equation
public import proofs.«01_k».proof.Proof.Launch
public import proofs.«01_k».proof.Proof.Finite

@[expose] public section

set_option maxRecDepth 16384

noncomputable section

namespace Cert.Result

open Idealize.ShloMosaic Idealize.ShloMosaic.TcCoe Idealize.SL.Sem Idealize.ShloMosaic.Tactic
open Idealize.ShloMosaic.Pipeline (Dat Cfg Window)
open Cert.KernelIdeal Cert.KernelIdeal.Gen Cert.KernelIdeal.Body Cert.KernelIdeal.Tile Cert.KernelIdeal.Scratch Cert.KernelIdeal.Launch
open Cert.ReferenceIdeal.Stages (merged mixed probs exps table proj)

variable (m : (ℓ : Loc nD τ sig) → Buf (Elt Ideal) ℓ)

/-- The reference's result on the kernel's arguments. -/
def expected (c : Dev nD) : FVec Ideal S1x2048x768 .f32 :=
  merged (mixed (probs (exps (table (proj (arg0 m c) (arg3 m c)) (proj (arg1 m c) (arg4 m c))))) (proj (arg2 m c) (arg5 m c))) (arg6 m c)

/-- The four arrays the scores are made of hold reals. -/
def Reals (c : Dev nD) : Prop :=
  (∀ i, arg0 m c i = (((arg0 m c i : EReal).toReal : ℝ) : EReal)) ∧ (∀ i, arg1 m c i = (((arg1 m c i : EReal).toReal : ℝ) : EReal))
    ∧ (∀ i, arg3 m c i = (((arg3 m c i : EReal).toReal : ℝ) : EReal)) ∧ (∀ i, arg4 m c i = (((arg4 m c i : EReal).toReal : ℝ) : EReal))

/-- What a point leaves in the output's buffer is the reference's result at the rows of its block. -/
theorem out_apply (c : Dev nD) (h : Reals m c) (t : Fin cfg0.N) (a : Fin 256) (j : Fin 768) :
    out m c t (ix3 0 a j) = expected m c (ix3 0 (⟨256 * (t.val - 1) + a.val, by have := lt9 t; omega⟩ : Fin 2048) j) := by
  unfold out expected
  rw [Head.blockNo_eq t]
  exact Equation.tile_apply (arg0 m c) (arg1 m c) (arg2 m c) (arg3 m c) (arg4 m c) (arg5 m c) (arg6 m c)
    (fun i => (arg0 m c i : EReal).toReal) (fun i => (arg1 m c i : EReal).toReal) (fun i => (arg3 m c i : EReal).toReal)
    (fun i => (arg4 m c i : EReal).toReal) h.1 h.2.1 h.2.2.1 h.2.2.2 ⟨t.val, lt9 t⟩ (iblk m c 0 t) (iblk0_apply m c t)
    (look (grid0.coords t) (keys m c)) (look (grid0.coords t) (vals m c)) (look_apply (keys m c) t) (look_apply (vals m c) t) a j

/-- The result array at the end. -/
theorem final (c : Dev nD) (h : Reals m c) : (dats m 0 c).arrAt 7 (cfgs 0).N = expected m c := by
  refine (dats m 0 c).arrAt_eq_of_covers 7 _ (by decide +kernel) fun t _ y => ?_
  blk_simp
  rw [after_7]
  obtain ⟨a, b, j, rfl⟩ : ∃ (a : Fin 1) (b : Fin 256) (j : Fin 768), y = ix3 a b j := ⟨y 0, y 1, y 2, by blk_ext []⟩
  obtain rfl : a = 0 := Subsingleton.elim _ _
  refine (out_apply m c h t b j).trans ?_
  blk_ext [idx t]

end Cert.Result

end
-- ==== Proof.lean ====
module

public import proofs.«01_k».proof.Defs
public import proofs.«01_k».proof.Proof.KernelFrame
public import proofs.«01_k».proof.Proof.Launch
public import proofs.«01_k».proof.Proof.Result
public import proofs.«01_k».proof.Proof.Gen.ReferenceIdeal.Run
public import Idealize.ShloMosaic.Lib.Claim
public import Idealize.ShloMosaic.Lib.Quiescent

@[expose] public section

set_option maxRecDepth 16384

noncomputable section

namespace Cert.Proof

open Idealize.ShloMosaic Idealize.SL.Sem

instance : Cert.Pre_finite_scores.Facts := Cert.Finite.facts

/-- The kernel ends with its arguments unchanged and its counters at zero. -/
theorem frame_kernel : Cert.quiescent_Kernel := fun m g _ => Cert.Kernel.Run.frame m g

/-- So does the idealized kernel, -/
theorem frame_ideal : Cert.quiescent_KernelIdeal := fun m g _ => Cert.KernelIdeal.Launch.frame m g

/-- under the precondition too, -/
theorem frame_ideal_pre : Cert.quiescent_KernelIdeal_pre_finite_scores := fun m g _ => Cert.KernelIdeal.Launch.frame m g

/-- and the reference, which has no semaphore. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

/-- The reference under the precondition. -/
theorem frame_reference_pre : Cert.quiescent_ReferenceIdeal_pre_finite_scores := fun m g _ => frame_reference m g trivial

/-- The idealized kernel is the kernel with its scale named. -/
theorem preserves : Cert.preserves_Kernel_KernelIdeal :=
  IdealRules.named_const.statement Cert.KernelIdeal.κ "scale2" .f32 0x3E38AA3B#32 (((8 * (Real.log 2))⁻¹ : ℝ) : EReal) rfl

/-- The precondition, at a device: the four arrays the scores are made of hold reals. -/
theorem reals_of_pre (m : (ℓ : Loc Cert.KernelIdeal.nD Cert.KernelIdeal.τ Cert.KernelIdeal.sig) → Buf (Elt Ideal) ℓ)
    (h : Cert.Pre_KernelIdeal_finite_scores m) (c : Dev Cert.KernelIdeal.nD) : Cert.Result.Reals m c :=
  Cert.Finite.of_pre _ _ _ _ _ _ _ (h c)

/-- The idealized kernel and the reference end with the same result. -/
theorem algebraic : Cert.algebraic_KernelIdeal_ReferenceIdeal_pre_finite_scores := by
  pair_intro
  · run_from Cert.KernelIdeal.Launch.run_main m g
  · run_from Cert.ReferenceIdeal.Value.run m' g'
    obtain ⟨h0, h1, h2, h3, h4, h5, h6⟩ := hagree c
    refine ((Cert.ReferenceIdeal.Stages.res_eq m' c).trans ?_).trans (Cert.Result.final m c (reals_of_pre m hpre c)).symm
    rw [h0, h1, h2, h3, h4, h5, h6]
    rfl

/-- Everything claimed. -/
theorem claim : Cert.Claim := ⟨Cert.Kernel.Gen.facts, Cert.KernelIdeal.Gen.facts, Cert.ReferenceIdeal.Gen.facts, Cert.Finite.facts,
  frame_kernel, frame_ideal, frame_ideal_pre, frame_reference, frame_reference_pre, preserves, algebraic⟩

end Cert.Proof

end
